-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x1280 : Shape := ⟨3, ![2, 2048, 1280]⟩
abbrev S_ : Shape := ⟨0, ![]⟩
abbrev S2x2048x25472 : Shape := ⟨3, ![2, 2048, 25472]⟩
abbrev S1280x25472 : Shape := ⟨2, ![1280, 25472]⟩
abbrev S4096x1280 : Shape := ⟨2, ![4096, 1280]⟩
abbrev S4096x25472 : Shape := ⟨2, ![4096, 25472]⟩
abbrev S1x1 : Shape := ⟨2, ![1, 1]⟩
abbrev S1280x4096 : Shape := ⟨2, ![1280, 4096]⟩
abbrev S128x25472 : Shape := ⟨2, ![128, 25472]⟩
abbrev S128x1280 : Shape := ⟨2, ![128, 1280]⟩
abbrev S1280x128 : Shape := ⟨2, ![1280, 128]⟩
abbrev S16x25472 : Shape := ⟨2, ![16, 25472]⟩
abbrev S8x16x25472 : Shape := ⟨3, ![8, 16, 25472]⟩
abbrev S1x16x25472 : Shape := ⟨3, ![1, 16, 25472]⟩
abbrev S1 : Shape := ⟨1, ![1]⟩
abbrev S1x1x1 : Shape := ⟨3, ![1, 1, 1]⟩
abbrev S1x256 : Shape := ⟨2, ![1, 256]⟩
abbrev S4096x512 : Shape := ⟨2, ![4096, 512]⟩
abbrev S1280x512 : Shape := ⟨2, ![1280, 512]⟩

abbrev nBuf : Space → Nat
  | .hbm => 14
  | .vmem => 18
  | .smem => 2
  | _ => 0

abbrev bufTy : (tb : Table) → Fin (tcTables nBuf tb) → BufTy
  | .hbm, ⟨0, _⟩ => ⟨S2x2048x1280, .fp8e4m3⟩
  | .hbm, ⟨1, _⟩ => ⟨S_, .f32⟩
  | .hbm, ⟨2, _⟩ => ⟨S2x2048x25472, .bf16⟩
  | .hbm, ⟨3, _⟩ => ⟨S1280x25472, .f32⟩
  | .hbm, ⟨4, _⟩ => ⟨S4096x1280, .fp8e4m3⟩
  | .hbm, ⟨5, _⟩ => ⟨S4096x25472, .bf16⟩
  | .hbm, ⟨6, _⟩ => ⟨S1x1, .f32⟩
  | .hbm, ⟨7, _⟩ => ⟨S1x1, .f32⟩
  | .hbm, ⟨8, _⟩ => ⟨S1280x4096, .fp8e4m3⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S1280x25472, .f32⟩
  | .hbm, ⟨13, _⟩ => ⟨S4096x25472, .fp8e5m2⟩
  | .local _ .vmem, ⟨0, _⟩ => ⟨S128x25472, .bf16⟩
  | .local _ .vmem, ⟨1, _⟩ => ⟨S128x25472, .bf16⟩
  | .local _ .vmem, ⟨2, _⟩ => ⟨S128x1280, .fp8e4m3⟩
  | .local _ .vmem, ⟨3, _⟩ => ⟨S128x1280, .fp8e4m3⟩
  | .local _ .vmem, ⟨4, _⟩ => ⟨S1x1, .f32⟩
  | .local _ .vmem, ⟨5, _⟩ => ⟨S1x1, .f32⟩
  | .local _ .vmem, ⟨6, _⟩ => ⟨S1280x128, .fp8e4m3⟩
  | .local _ .vmem, ⟨7, _⟩ => ⟨S1280x128, .fp8e4m3⟩
  | .local _ .vmem, ⟨8, _⟩ => ⟨S16x25472, .bf16⟩
  | .local _ .vmem, ⟨9, _⟩ => ⟨S1280x4096, .fp8e4m3⟩
  | .local _ .vmem, ⟨10, _⟩ => ⟨S4096x512, .bf16⟩
  | .local _ .vmem, ⟨11, _⟩ => ⟨S4096x512, .bf16⟩
  | .local _ .vmem, ⟨12, _⟩ => ⟨S1280x512, .f32⟩
  | .local _ .vmem, ⟨13, _⟩ => ⟨S1280x512, .f32⟩
  | .local _ .vmem, ⟨14, _⟩ => ⟨S1280x512, .f32⟩
  | .local _ .vmem, ⟨15, _⟩ => ⟨S1280x512, .f32⟩
  | .local _ .vmem, ⟨16, _⟩ => ⟨S4096x512, .fp8e5m2⟩
  | .local _ .vmem, ⟨17, _⟩ => ⟨S4096x512, .fp8e5m2⟩
  | .local _ .smem, ⟨0, _⟩ => ⟨S1x1, .f32⟩
  | .local _ .smem, ⟨1, _⟩ => ⟨S1x1, .f32⟩
  | _, _ => ⟨S2x2048x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg0_0 : Ref sig .tc := ⟨.smem, 0, rfl⟩
abbrev cc1_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x25472 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1280x4096 .fp8e4m3 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1280x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1280x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x512 .fp8e5m2 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S2x2048x1280 : Shape := ⟨3, ![2, 2048, 1280]⟩
abbrev S_ : Shape := ⟨0, ![]⟩
abbrev S2x2048x25472 : Shape := ⟨3, ![2, 2048, 25472]⟩
abbrev S1280x25472 : Shape := ⟨2, ![1280, 25472]⟩
abbrev S4096x1280 : Shape := ⟨2, ![4096, 1280]⟩
abbrev S1x1 : Shape := ⟨2, ![1, 1]⟩
abbrev S4096x25472 : Shape := ⟨2, ![4096, 25472]⟩
abbrev S1x4096x25472 : Shape := ⟨3, ![1, 4096, 25472]⟩
abbrev S1 : Shape := ⟨1, ![1]⟩
abbrev S1x1x1 : Shape := ⟨3, ![1, 1, 1]⟩
abbrev S1x256 : Shape := ⟨2, ![1, 256]⟩

abbrev nBuf : Space → Nat
  | .hbm => 10
  | .vmem => 7
  | .smem => 0
  | _ => 0

abbrev bufTy : (tb : Table) → Fin (tcTables nBuf tb) → BufTy
  | .hbm, ⟨0, _⟩ => ⟨S2x2048x1280, .fp8e4m3⟩
  | .hbm, ⟨1, _⟩ => ⟨S_, .f32⟩
  | .hbm, ⟨2, _⟩ => ⟨S2x2048x25472, .bf16⟩
  | .hbm, ⟨3, _⟩ => ⟨S1280x25472, .f32⟩
  | .hbm, ⟨4, _⟩ => ⟨S4096x1280, .fp8e4m3⟩
  | .hbm, ⟨5, _⟩ => ⟨S1x1, .f32⟩
  | .hbm, ⟨6, _⟩ => ⟨S4096x25472, .bf16⟩
  | .hbm, ⟨7, _⟩ => ⟨S1280x25472, .f32⟩
  | .hbm, ⟨8, _⟩ => ⟨S4096x25472, .fp8e5m2⟩
  | .hbm, ⟨9, _⟩ => ⟨S1x1, .f32⟩
  | .local _ .vmem, ⟨0, _⟩ => ⟨S4096x1280, .fp8e4m3⟩
  | .local _ .vmem, ⟨1, _⟩ => ⟨S1x1, .f32⟩
  | .local _ .vmem, ⟨2, _⟩ => ⟨S4096x25472, .bf16⟩
  | .local _ .vmem, ⟨3, _⟩ => ⟨S1280x25472, .f32⟩
  | .local _ .vmem, ⟨4, _⟩ => ⟨S1280x25472, .f32⟩
  | .local _ .vmem, ⟨5, _⟩ => ⟨S4096x25472, .fp8e5m2⟩
  | .local _ .vmem, ⟨6, _⟩ => ⟨S1x1, .f32⟩
  | _, _ => ⟨S2x2048x1280, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x1280 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x25472 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x25472 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280x25472 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x25472 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.AmaxRun.lean ====
/- What one grid point of the first call (`amax_xt`) does to whole buffers, in the three cases of its two guards: at the first
   point the column maxima of the block are stored into the scratch, at a later point they are taken into it, and at the last
   point the scale and its inverse are stored besides. The transposed block of codes is stored at every point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Amax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- One store through a whole block leaves its payload. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- The first guard: the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second guard: the points after the first. -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ 1 ≤ t.val :=
  (by decide +kernel : ∀ t : Fin grid0.N, cond0_1 (grid0.coords t) ↔ 1 ≤ t.val)
/-- The third guard: the last point. -/
abbrev cond0_2 (i : grid0.Coords) : Prop := k0_cond3 i = 1#1
theorem hcond0_2 : ∀ t : Fin cfg0.N, cond0_2 (grid0.coords t) ↔ t.val = 31 :=
  (by decide +kernel : ∀ t : Fin grid0.N, cond0_2 (grid0.coords t) ↔ t.val = 31)

set_option maxHeartbeats 1000000 in
/-- The first point. -/
theorem run_first (c : Dev nD) (i : grid0.Coords) (arg1 : Memref sig .tc .vmem S128x25472 .bf16) (harg1 : arg1.IsWhole) (arg2 : Memref sig .tc .vmem S128x1280 .fp8e4m3) (harg2 : arg2.IsWhole) (arg3 : Memref sig .tc .vmem S1x1 .f32) (harg3 : arg3.IsWhole) (arg4 : Memref sig .tc .vmem S1x1 .f32) (harg4 : arg4.IsWhole) (arg5 : Memref sig .tc .vmem S1280x128 .fp8e4m3) (harg5 : arg5.IsWhole) (arg6 : Memref sig .tc .vmem S16x25472 .bf16) (harg6 : arg6.IsWhole) (hc0 : cond0_0 i) (hc1 : ¬cond0_1 i) (hc2 : ¬cond0_2 i)
    (x0 : Vec F S128x25472 .bf16) (x1 : Vec F S128x1280 .fp8e4m3) (E : Set ℕ) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg5 fullShare (k0_pay4 x1) ∗ owns (c : Thread nD τ) arg6 fullShare (k0_pay2 x0)) -∗ K ⟨⟩))
      ⊢ wp frame (wpE (defs₀ (F := F)) Variants.none c none) E (cc0_amax_xt i arg1 harg1 arg2 harg2 arg3 harg3 arg4 harg4 arg5 harg5 arg6 harg6) K := by
  simp only [cc0_amax_xt_eq_skeleton]; unfold cc0_amax_xt_skel
  unfold owns
  iintro ⟨⟨%f0, %hf0, H0⟩, ⟨%f1, %hf1, H1⟩, ⟨%d4, %f4, -, H4⟩, ⟨%ds0, %fs0, -, HS0⟩, Hk⟩
  obtain rfl := harg1.eq_unread hf0; obtain rfl := harg2.eq_unread hf1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H4]
  · iexists _; isplitr
    swap; · iexact H4
    ipureintro
    refine (read_writes_whole _ _ hz _ _).trans ?_
    simp only [View.readAt_eq_ld, harg2.read_unread, View.ld_unit_zero (S := S128x1280) hz]
  iexists _; isplitr
  swap; · iexact HS0
  ipureintro
  refine (read_writes_whole _ _ hz _ _).trans ?_
  simp only [View.readAt_eq_ld, harg1.read_unread, View.ld_unit_zero (S := S128x25472) hz]

set_option maxHeartbeats 1000000 in
/-- A point between the first and the last. -/
theorem run_mid (c : Dev nD) (i : grid0.Coords) (arg1 : Memref sig .tc .vmem S128x25472 .bf16) (harg1 : arg1.IsWhole) (arg2 : Memref sig .tc .vmem S128x1280 .fp8e4m3) (harg2 : arg2.IsWhole) (arg3 : Memref sig .tc .vmem S1x1 .f32) (harg3 : arg3.IsWhole) (arg4 : Memref sig .tc .vmem S1x1 .f32) (harg4 : arg4.IsWhole) (arg5 : Memref sig .tc .vmem S1280x128 .fp8e4m3) (harg5 : arg5.IsWhole) (arg6 : Memref sig .tc .vmem S16x25472 .bf16) (harg6 : arg6.IsWhole) (hc0 : ¬cond0_0 i) (hc1 : cond0_1 i) (hc2 : ¬cond0_2 i)
    (x0 : Vec F S128x25472 .bf16) (x1 : Vec F S128x1280 .fp8e4m3) (xs : Vec F S16x25472 .bf16) (E : Set ℕ) (K : PUnit → sProp 𝕄) :
    iprop(owns (c : Thread nD τ) arg1 fullShare x0 ∗ owns (c : Thread nD τ) arg2 fullShare x1 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg5 fullShare (k0_pay4 x1) ∗ owns (c : Thread nD τ) arg6 fullShare (k0_pay3 x0 xs)) -∗ K ⟨⟩))
      ⊢ wp frame (wpE (defs₀ (F := F)) Variants.none c none) E (cc0_amax_xt i arg1 harg1 arg2 harg2 arg3 harg3 arg4 harg4 arg5 harg5 arg6 harg6) K := by
  simp only [cc0_amax_xt_eq_skeleton]; unfold cc0_amax_xt_skel
  unfold owns
  iintro ⟨⟨%f0, %hf0, H0⟩, ⟨%f1, %hf1, H1⟩, ⟨%d4, %f4, -, H4⟩, ⟨%fs0, %hfs, HS0⟩, Hk⟩
  obtain rfl := harg1.eq_unread hf0; obtain rfl := harg2.eq_unread hf1; obtain rfl := harg6.eq_unread hfs
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H4]
  · iexists _; isplitr
    swap; · iexact H4
    ipureintro
    refine (read_writes_whole _ _ hz _ _).trans ?_
    simp only [View.readAt_eq_ld, harg2.read_unread, View.ld_unit_zero (S := S128x1280) hz]
  iexists _; isplitr
  swap; · iexact HS0
  ipureintro
  refine (read_writes_whole _ _ hz _ _).trans ?_
  simp only [View.readAt_eq_ld, harg1.read_unread, harg6.read_unread, View.ld_unit_zero (S := S128x25472) hz, View.ld_unit_zero (S := S16x25472) hz]

set_option maxHeartbeats 1000000 in
/-- The last point. -/
theorem run_last (c : Dev nD) (i : grid0.Coords) (arg1 : Memref sig .tc .vmem S128x25472 .bf16) (harg1 : arg1.IsWhole) (arg2 : Memref sig .tc .vmem S128x1280 .fp8e4m3) (harg2 : arg2.IsWhole) (arg3 : Memref sig .tc .vmem S1x1 .f32) (harg3 : arg3.IsWhole) (arg4 : Memref sig .tc .vmem S1x1 .f32) (harg4 : arg4.IsWhole) (arg5 : Memref sig .tc .vmem S1280x128 .fp8e4m3) (harg5 : arg5.IsWhole) (arg6 : Memref sig .tc .vmem S16x25472 .bf16) (harg6 : arg6.IsWhole) (hc0 : ¬cond0_0 i) (hc1 : cond0_1 i) (hc2 : cond0_2 i)
    (x0 : Vec F S128x25472 .bf16) (x1 : Vec F S128x1280 .fp8e4m3) (xs : Vec F S16x25472 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare (k0_pay5 (F := F) (k0_pay8 (k0_pay3 x0 xs))) ∗ owns (c : Thread nD τ) arg4 fullShare (k0_pay6 (F := F) (k0_pay7 (k0_pay3 x0 xs))) ∗ owns (c : Thread nD τ) arg5 fullShare (k0_pay4 x1) ∗ owns (c : Thread nD τ) arg6 fullShare (k0_pay3 x0 xs)) -∗ K ⟨⟩))
      ⊢ wp frame (wpE (defs₀ (F := F)) Variants.none c none) E (cc0_amax_xt i arg1 harg1 arg2 harg2 arg3 harg3 arg4 harg4 arg5 harg5 arg6 harg6) K := by
  simp only [cc0_amax_xt_eq_skeleton]; unfold cc0_amax_xt_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs, HS0⟩, Hk⟩
  obtain rfl := harg1.eq_unread hf0; obtain rfl := harg2.eq_unread hf1; obtain rfl := harg6.eq_unread hfs
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_writes_whole _ _ hz _ _).trans ?_
    sl_unfold_words
    simp only [View.readCov_unit_zero (S := S16x25472) _ hz, View.readAt_eq_ld, harg1.read_unread, harg6.read_unread, View.ld_unit_zero (S := S128x25472) hz, View.ld_unit_zero (S := S16x25472) hz]
  isplitl [H3]
  · iexists _; isplitr
    swap; · iexact H3
    ipureintro
    refine (read_writes_whole _ _ hz _ _).trans ?_
    sl_unfold_words
    simp only [View.readCov_unit_zero (S := S16x25472) _ hz, View.readAt_eq_ld, harg1.read_unread, harg6.read_unread, View.ld_unit_zero (S := S128x25472) hz, View.ld_unit_zero (S := S16x25472) hz]
  isplitl [H4]
  · iexists _; isplitr
    swap; · iexact H4
    ipureintro
    refine (read_writes_whole _ _ hz _ _).trans ?_
    simp only [View.readAt_eq_ld, harg2.read_unread, View.ld_unit_zero (S := S128x1280) hz]
  iexists _; isplitr
  swap; · iexact HS0
  ipureintro
  refine (read_writes_whole _ _ hz _ _).trans ?_
  simp only [View.readAt_eq_ld, harg1.read_unread, harg6.read_unread, View.ld_unit_zero (S := S128x25472) hz, View.ld_unit_zero (S := S16x25472) hz]

end Cert.KernelIdeal.Amax

end
-- ==== Proof.AmaxBody.lean ====
/- The first call's proof data: what its buffers hold between points, by name — the scratch at the running column maxima
   `acc`, the last block of scale and inverse at the values computed from them — and the body meeting it at every point. -/
module

public import proofs.«01_k».proof.Proof.AmaxRun

@[expose] public section

set_option maxRecDepth 16384

noncomputable section

namespace Cert.KernelIdeal.Amax

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev ms0_0 (t : Fin cfg0.N) : Memref sig .tc .vmem S128x25472 .bf16 := win0_0.stage (cfg0.slots t 0)
abbrev ms0_1 (t : Fin cfg0.N) : Memref sig .tc .vmem S128x1280 .fp8e4m3 := win0_1.stage (cfg0.slots t 1)
abbrev ms0_2 (t : Fin cfg0.N) : Memref sig .tc .vmem S1x1 .f32 := win0_2.stage (cfg0.slots t 2)
abbrev ms0_3 (t : Fin cfg0.N) : Memref sig .tc .vmem S1x1 .f32 := win0_3.stage (cfg0.slots t 3)
abbrev ms0_4 (t : Fin cfg0.N) : Memref sig .tc .vmem S1280x128 .fp8e4m3 := win0_4.stage (cfg0.slots t 4)
abbrev scM0_0 : Memref sig .tc .vmem S16x25472 .bf16 := Memref.whole cc0_scratch0

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The scratch after point `n`: the column maxima (of absolute values) of the blocks so far. -/
def acc (c : Dev nD) : (n : ℕ) → n < cfg0.N → Vec F S16x25472 .bf16
  | 0, h => k0_pay2 (iblk W c 0 ⟨0, h⟩)
  | n + 1, h => k0_pay3 (iblk W c 0 ⟨n + 1, h⟩) (acc c n (Nat.lt_of_succ_lt h))

/-- The scoped buffers that the first call does not use, each at some contents. -/
def others (c : Dev nD) : sProp 𝕄 :=
  iprop((∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f))

theorem PhiA0_eq (c : Dev nD) :
    (Pipeline.ΦA spec0 c : sProp 𝕄)
      = iprop(((∃ d, owns (c : Thread nD τ) scM0_0 fullShare d) ∗ others (F := F) c) ∗ (∃ r, prngReg c r)) := by
  unfold Pipeline.ΦA others; rw [scopedRest0_eq]; simp only [scM0_0, owns_whole]; try rfl

/-- The invariant before point `n`. -/
def PhiS (c : Dev nD) : (n : ℕ) → n ≤ cfg0.N → sProp 𝕄
  | 0, _ => Pipeline.ΦA spec0 c
  | n + 1, hn => iprop((owns (c : Thread nD τ) scM0_0 fullShare (acc W c n hn) ∗ others (F := F) c) ∗ (∃ r, prngReg c r))

theorem PhiS_zero (c : Dev nD) (n : ℕ) (h : n ≤ cfg0.N) (hz : n = 0) : PhiS W c n h = Pipeline.ΦA spec0 c := by
  subst hz; rfl

theorem PhiS_succ (c : Dev nD) (n : ℕ) (hn : n < cfg0.N) :
    PhiS W c (n + 1) hn = iprop((owns (c : Thread nD τ) scM0_0 fullShare (acc W c n hn) ∗ others (F := F) c) ∗ (∃ r, prngReg c r)) := rfl

theorem PhiS_pos (c : Dev nD) (n : ℕ) (h : n ≤ cfg0.N) (hz : n ≠ 0) :
    PhiS W c n h = iprop((owns (c : Thread nD τ) scM0_0 fullShare (acc W c (n - 1) (by omega)) ∗ others (F := F) c) ∗ (∃ r, prngReg c r)) := by
  cases n with
  | zero => exact absurd rfl hz
  | succ n => rfl

theorem acc_zero (c : Dev nD) (t : Fin cfg0.N) (h : t.val = 0) : acc W c t.val t.isLt = k0_pay2 (iblk W c 0 t) := by
  obtain ⟨n, hn⟩ := t; dsimp only at h; subst h; rfl

theorem acc_pos (c : Dev nD) (t : Fin cfg0.N) (h : t.val ≠ 0) :
    acc W c t.val t.isLt = k0_pay3 (iblk W c 0 t) (acc W c (t.val - 1) (by omega)) := by
  obtain ⟨n, hn⟩ := t
  cases n with
  | zero => exact absurd rfl h
  | succ n => rfl

/-- The scale and its inverse, as the last point computes them from the column maxima `a`. -/
def scaleOf (a : Vec F S16x25472 .bf16) : Vec F S1x1 .f32 := k0_pay5 (F := F) (k0_pay8 a)
def invOf (a : Vec F S16x25472 .bf16) : Vec F S1x1 .f32 := k0_pay6 (F := F) (k0_pay7 a)

/-- The proof data of the first call. -/
def dats (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => scaleOf (acc W c t.val t.isLt)
    | ⟨3, _⟩ => invOf (acc W c t.val t.isLt)
    | ⟨4, _⟩ => k0_pay4 (iblk W c 1 t)
  Φ t := PhiS W c t.val (Nat.le_of_lt_succ t.isLt)
  q _ := fullShare
  owed _ := 0

theorem A_eq (c : Dev nD) (w : Fin cfg0.W) : (dats W c).A w = W c (Proc.devRef .tc (Pipeline.arrRef spec0 w)) := by
  dsimp only [dats]

theorem PhiS_castSucc (c : Dev nD) (t : Fin cfg0.N) :
    (dats W c).Φ t.castSucc = PhiS W c t.val (Nat.le_of_lt t.isLt) := by
  dsimp only [dats]; exact Pipeline.Dat.Φ_castSucc (PhiS W c) t

theorem after0_0 (c : Dev nD) (t : Fin cfg0.N) : (dats W c).after 0 t = iblk W c 0 t := by dsimp only [dats]
theorem after0_1 (c : Dev nD) (t : Fin cfg0.N) : (dats W c).after 1 t = iblk W c 1 t := by dsimp only [dats]
theorem after0_2 (c : Dev nD) (t : Fin cfg0.N) : (dats W c).after 2 t = scaleOf (acc W c t.val t.isLt) := by dsimp only [dats]
theorem after0_3 (c : Dev nD) (t : Fin cfg0.N) : (dats W c).after 3 t = invOf (acc W c t.val t.isLt) := by dsimp only [dats]
theorem after0_4 (c : Dev nD) (t : Fin cfg0.N) : (dats W c).after 4 t = k0_pay4 (iblk W c 1 t) := by dsimp only [dats]

theorem before0_0 (c : Dev nD) (t : Fin cfg0.N) (d) : (dats W c).before 0 t d = iblk W c 0 t :=
  ((dats W c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dats W c).before 1 t d = iblk W c 1 t :=
  ((dats W c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)

theorem idle2 : ∀ t : Fin cfg0.N, t.val ≠ 31 → cfg0.idle 2 (grid0.coords t) = true := by decide +kernel
theorem idle3 : ∀ t : Fin cfg0.N, t.val ≠ 31 → cfg0.idle 3 (grid0.coords t) = true := by decide +kernel
theorem live2 : ∀ t : Fin cfg0.N, t.val = 31 → cfg0.idle 2 (grid0.coords t) = false := by decide +kernel
theorem live3 : ∀ t : Fin cfg0.N, t.val = 31 → cfg0.idle 3 (grid0.coords t) = false := by decide +kernel
theorem noFlush2 : ∀ t : Fin cfg0.N, t.val ≠ 31 → (cfg0.win 2).flush t = false := by decide +kernel
theorem noFlush3 : ∀ t : Fin cfg0.N, t.val ≠ 31 → (cfg0.win 3).flush t = false := by decide +kernel

/-- What the body is called with at point `t`, -/
def bodyPre (c : Dev nD) (t : Fin cfg0.N) : sProp 𝕄 :=
  iprop((dats W c).Φ t.castSucc ∗ (dats W c).owesAt () t.castSucc
    ∗ (∃ d, owns (c : Thread nD τ) (ms0_0 t) fullShare ((dats W c).before 0 t d))
    ∗ (∃ d, owns (c : Thread nD τ) (ms0_1 t) fullShare ((dats W c).before 1 t d))
    ∗ (∃ d, owns (c : Thread nD τ) (ms0_2 t) fullShare ((dats W c).before 2 t d))
    ∗ (∃ d, owns (c : Thread nD τ) (ms0_3 t) fullShare ((dats W c).before 3 t d))
    ∗ (∃ d, owns (c : Thread nD τ) (ms0_4 t) fullShare ((dats W c).before 4 t d)))

/-- and what it returns. -/
def bodyPost (c : Dev nD) (t : Fin cfg0.N) : sProp 𝕄 :=
  iprop((dats W c).Φ t.succ ∗ (dats W c).owesAt () t.succ
    ∗ (dats W c).leavesExact 0 t
    ∗ (dats W c).leavesExact 1 t
    ∗ (dats W c).leavesExact 2 t
    ∗ (dats W c).leavesExact 3 t
    ∗ (dats W c).leavesExact 4 t)

set_option maxHeartbeats 1600000 in
/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1]
  rw [show (dats W c).owesAt () t.succ = (dats W c).owesAt () t.castSucc from rfl]
  rw [show (dats W c).Φ t.succ = PhiS W c (t.val + 1) t.isLt from rfl, PhiS_succ]
  rw [show (dats W c).leavesExact 0 t = owns (c : Thread nD τ) (ms0_0 t) fullShare ((dats W c).after 0 t) from rfl, after0_0]
  rw [show (dats W c).leavesExact 1 t = owns (c : Thread nD τ) (ms0_1 t) fullShare ((dats W c).after 1 t) from rfl, after0_1]
  rw [show (dats W c).leavesExact 4 t = owns (c : Thread nD τ) (ms0_4 t) fullShare ((dats W c).after 4 t) from rfl, after0_4]
  have hN : t.val < 32 := lt_of_lt_of_eq t.isLt (show cfg0.N = 32 from N_0)
  by_cases h0 : t.val = 0
  · have h31 : t.val ≠ 31 := by omega
    rw [Dat.leavesExact_idle (dats W c) 2 t (idle2 t h31) (noFlush2 t h31), Dat.leavesExact_idle (dats W c) 3 t (idle3 t h31) (noFlush3 t h31)]
    rw [PhiS_castSucc W c t, PhiS_zero W c _ _ h0, PhiA0_eq, acc_zero W c t h0]
    iintro ⟨⟨⟨HS0, Hr⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((hcond0_0 t).mpr h0) (fun h => absurd ((hcond0_1 t).mp h) (by omega)) (fun h => h31 ((hcond0_2 t).mp h)) (iblk W c 0 t) (iblk W c 1 t) Set.univ _)
    isplitl [H0]; · iexact H0
    isplitl [H1]; · iexact H1
    isplitl [H4]; · iexists _; iexact H4
    isplitl [HS0]; · iexact HS0
    iintro ⟨H0, H1, H4, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexists _; iexact H2
    isplitl [H3]; · iexists _; iexact H3
    iexact H4
  · rw [PhiS_castSucc W c t, PhiS_pos W c _ _ h0, acc_pos W c t h0]
    by_cases h31 : t.val = 31
    · rw [show (dats W c).leavesExact 2 t = owns (c : Thread nD τ) (ms0_2 t) fullShare ((dats W c).after 2 t) from by
        unfold Dat.leavesExact; rw [live2 t h31], after0_2]
      rw [show (dats W c).leavesExact 3 t = owns (c : Thread nD τ) (ms0_3 t) fullShare ((dats W c).after 3 t) from by
        unfold Dat.leavesExact; rw [live3 t h31], after0_3]
      rw [acc_pos W c t h0]
      unfold scaleOf invOf
      iintro ⟨⟨⟨HS0, Hr⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ (fun h => h0 ((hcond0_0 t).mp h)) ((hcond0_1 t).mpr (by omega)) ((hcond0_2 t).mpr h31) (iblk W c 0 t) (iblk W c 1 t) _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      iintro ⟨H0, H1, H2, H3, H4, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dats W c) 2 t (idle2 t h31) (noFlush2 t h31), Dat.leavesExact_idle (dats W c) 3 t (idle3 t h31) (noFlush3 t h31)]
      iintro ⟨⟨⟨HS0, Hr⟩, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ (fun h => h0 ((hcond0_0 t).mp h)) ((hcond0_1 t).mpr (by omega)) (fun h => h31 ((hcond0_2 t).mp h)) (iblk W c 0 t) (iblk W c 1 t) _ Set.univ _)
      isplitl [H0]; · iexact H0
      isplitl [H1]; · iexact H1
      isplitl [H4]; · iexists _; iexact H4
      isplitl [HS0]; · iexact HS0
      iintro ⟨H0, H1, H4, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexists _; iexact H2
      isplitl [H3]; · iexists _; iexact H3
      iexact H4

theorem defs₀_row (t : Fin cfg0.N) :
    defs₀ (F := F) .tc cfg0.body (cfg0.bodyArgs t (cfg0.slots t)) = bodyAt0 t := by
  unfold defs₀; rw [Defs.onTc_tc]

/-- The body obligation of the first call. -/
theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

theorem hin (c : Dev nD) : Pipeline.ΦA spec0 c ⊢ (dats W c).Φ 0 := by
  rw [show (dats W c).Φ 0 = PhiS W c 0 (Nat.zero_le _) from rfl, PhiS_zero W c 0 _ rfl]

theorem hout (c : Dev nD) : (dats W c).Φ (Fin.last cfg0.N) ⊢ Pipeline.ΦA spec0 c := by
  rw [show (dats W c).Φ (Fin.last cfg0.N) = PhiS W c cfg0.N (Nat.le_refl _) from rfl,
    PhiS_pos W c _ _ (by rw [show cfg0.N = 32 from N_0]; omega), PhiA0_eq]
  iintro ⟨⟨HS0, Hr⟩, Hg⟩
  isplitl [HS0 Hr]
  · isplitl [HS0]; · iexists _; iexact HS0
    iexact Hr
  iexact Hg

end Cert.KernelIdeal.Amax

end
-- ==== Proof.WgradRun.lean ====
/- What one grid point of the second call (`quant_wgrad`) does to whole buffers: it stores the block's codes, and the block of
   `dw_acc` plus the scaled product of the transposed codes of `x` with the block's codes. -/
module

public import proofs.«01_k».proof.Proof.AmaxRun
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Wgrad

open Cert.KernelIdeal Cert.KernelIdeal.Gen Cert.KernelIdeal.Amax
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-by-one block. -/
def i00 : S1x1.Idx := fun a => ⟨0, by fin_cases a <;> decide⟩

theorem eq_i00 (j : S1x1.Idx) : j = i00 := by
  funext a; fin_cases a <;> exact Subsingleton.elim (α := Fin 1) _ _

theorem ld_i00 (x : Vec F S1x1 .f32) (inb : ∀ a, (![0, 0] : Fin 2 → Nat) a + S1x1.size a ≤ S1x1.size a) :
    View.ld x (Rect.unit (s := S1x1) ![0, 0] S1x1.size inb) i00 = x i00 :=
  congrFun (View.ld_unit_zero (S := S1x1) hz inb x) i00

set_option maxHeartbeats 1000000 in
/-- A point of the second call. -/
theorem run (c : Dev nD) (i : grid1.Coords) (arg1 : Memref sig .tc .smem S1x1 .f32) (harg1 : arg1.IsWhole) (arg2 : Memref sig .tc .smem S1x1 .f32) (harg2 : arg2.IsWhole) (arg3 : Memref sig .tc .vmem S1280x4096 .fp8e4m3) (harg3 : arg3.IsWhole) (arg4 : Memref sig .tc .vmem S4096x512 .bf16) (harg4 : arg4.IsWhole) (arg5 : Memref sig .tc .vmem S1280x512 .f32) (harg5 : arg5.IsWhole) (arg6 : Memref sig .tc .vmem S1280x512 .f32) (harg6 : arg6.IsWhole) (arg7 : Memref sig .tc .vmem S4096x512 .fp8e5m2) (harg7 : arg7.IsWhole)
    (x0 x1 : Vec F S1x1 .f32) (x2 : Vec F S1280x4096 .fp8e4m3) (x3 : Vec F S4096x512 .bf16) (x4 : Vec F S1280x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay2 x3 (x1 i00) x2 x4 (x0 i00)) ∗ owns (c : Thread nD τ) arg7 fullShare (k1_pay1 x3 (x1 i00))) -∗ K ⟨⟩))
      ⊢ wp frame (wpE (defs₀ (F := F)) Variants.none c none) E (cc1_quant_wgrad i arg1 harg1 arg2 harg2 arg3 harg3 arg4 harg4 arg5 harg5 arg6 harg6 arg7 harg7) K := by
  simp only [cc1_quant_wgrad_eq_skeleton]; unfold cc1_quant_wgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (read_writes_whole _ _ hz _ _).trans ?_
    simp only [View.readAt_eq_ld, harg1.read_unread, harg2.read_unread, harg3.read_unread, harg4.read_unread, harg5.read_unread, View.ld_unit_zero (S := S1280x4096) hz, View.ld_unit_zero (S := S4096x512) hz, View.ld_unit_zero (S := S1280x512) hz]
    sl_unfold_words
    simp only [View.readAt_eq_ld, harg1.read_unread, harg2.read_unread]
    rw [eq_i00 (Shape.Idx.first _)]
    exact congrArg₂ (fun a b => k1_pay2 x3 a x2 x4 b) (ld_i00 x1 _) (ld_i00 x0 _)
  iexists _; isplitr
  swap; · iexact H6
  ipureintro
  refine (read_writes_whole _ _ hz _ _).trans ?_
  simp only [View.readAt_eq_ld, harg2.read_unread, harg4.read_unread, View.ld_unit_zero (S := S4096x512) hz]
  sl_unfold_words
  simp only [View.readAt_eq_ld, harg2.read_unread]
  rw [eq_i00 (Shape.Idx.first _)]
  exact congrArg (k1_pay1 x3) (ld_i00 x1 _)

end Cert.KernelIdeal.Wgrad

end
-- ==== Proof.WgradBody.lean ====
/- The second call's proof data. The last of its blocks of columns hangs over the arrays' edge: what is fetched of it is filled up
   with anything, and so what the body computes there is not named but held to a relation (`Rl`): at every point each output block is
   the body's function of blocks that agree with the arrays inside them. -/
module

public import proofs.«01_k».proof.Proof.WgradRun
public import Idealize.ShloMosaic.Lib.Pipeline.DatRel

@[expose] public section

set_option maxRecDepth 16384

noncomputable section

namespace Cert.KernelIdeal.Wgrad

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (W : Dev nD → Valuation τ sig (Elt F))

abbrev ms1_0 (t : Fin cfg1.N) : Memref sig .tc .smem S1x1 .f32 := win1_0.stage (cfg1.slots t 0)
abbrev ms1_1 (t : Fin cfg1.N) : Memref sig .tc .smem S1x1 .f32 := win1_1.stage (cfg1.slots t 1)
abbrev ms1_2 (t : Fin cfg1.N) : Memref sig .tc .vmem S1280x4096 .fp8e4m3 := win1_2.stage (cfg1.slots t 2)
abbrev ms1_3 (t : Fin cfg1.N) : Memref sig .tc .vmem S4096x512 .bf16 := win1_3.stage (cfg1.slots t 3)
abbrev ms1_4 (t : Fin cfg1.N) : Memref sig .tc .vmem S1280x512 .f32 := win1_4.stage (cfg1.slots t 4)
abbrev ms1_5 (t : Fin cfg1.N) : Memref sig .tc .vmem S1280x512 .f32 := win1_5.stage (cfg1.slots t 5)
abbrev ms1_6 (t : Fin cfg1.N) : Memref sig .tc .vmem S4096x512 .fp8e5m2 := win1_6.stage (cfg1.slots t 6)

/-- Window `w`'s block at point `t` (its part inside the array), read off the array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The block of `dy` and of `dw_acc` at point `t`, filled up with `d` outside the array. -/
def dyBlk (c : Dev nD) (t : Fin cfg1.N) (d : Vec F S4096x512 .bf16) : Vec F S4096x512 .bf16 :=
  (cfg1.win 3).fill (cfg1.grid.coords t) d (iblk W c 3 t)
def accBlk (c : Dev nD) (t : Fin cfg1.N) (d : Vec F S1280x512 .f32) : Vec F S1280x512 .f32 :=
  (cfg1.win 4).fill (cfg1.grid.coords t) d (iblk W c 4 t)

/-- The combined scale, the inverse scale and the transposed codes of `x` as the call finds them. -/
def sBlk (c : Dev nD) (t : Fin cfg1.N) : Vec F S1x1 .f32 := iblk W c 0 t
def invBlk (c : Dev nD) (t : Fin cfg1.N) : Vec F S1x1 .f32 := iblk W c 1 t
def xtBlk (c : Dev nD) (t : Fin cfg1.N) : Vec F S1280x4096 .fp8e4m3 := iblk W c 2 t

/-- What the body may leave in the output blocks. -/
def RlDw (c : Dev nD) (t : Fin cfg1.N) (X : Vec F S1280x512 .f32) : Prop :=
  ∃ d3 d4, X = k1_pay2 (dyBlk W c t d3) (invBlk W c t i00) (xtBlk W c t) (accBlk W c t d4) (sBlk W c t i00)
def RlCodes (c : Dev nD) (t : Fin cfg1.N) (X : Vec F S4096x512 .fp8e5m2) : Prop :=
  ∃ d3, X = k1_pay1 (dyBlk W c t d3) (invBlk W c t i00)

/-- The windows held to a relation: the two outputs. -/
def marked : Fin cfg1.W → Bool
  | ⟨5, _⟩ => true | ⟨6, _⟩ => true | _ => false

def Rl (c : Dev nD) : (w : Fin cfg1.W) → Fin cfg1.N → ((cfg1.win w).block.Idx → Elt F (cfg1.win w).elt) → Prop
  | ⟨5, _⟩ => fun t X => RlDw W c t X
  | ⟨6, _⟩ => fun t X => RlCodes W c t X
  | _ => fun _ _ => True

/-- Contents nothing is read of. -/
def junkDy : Vec F S4096x512 .bf16 := fun _ => Scalar.ofBits .bf16 0#16
def junkAcc : Vec F S1280x512 .f32 := fun _ => Scalar.ofBits .f32 0#32

/-- The proof data of the second call; nothing is read of what it names in windows 5 and 6. -/
def dats (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => dyBlk W c t junkDy
    | ⟨4, _⟩ => accBlk W c t junkAcc
    | ⟨5, _⟩ => junkAcc
    | ⟨6, _⟩ => k1_pay1 junkDy (Scalar.ofBits .f32 0#32)
  Φ _ := Pipeline.ΦA spec1 c
  q _ := fullShare
  owed _ := 0

/-- The same, the outputs held to `Rl`. -/
abbrev rdats (c : Dev nD) : RDat τ (Elt F) Unit ℕ (UR sig nD τ) ℕ cfg1 c := (dats W c).toRRel marked (Rl W c)

theorem A_eq (c : Dev nD) (w : Fin cfg1.W) : (dats W c).A w = W c (Proc.devRef .tc (Pipeline.arrRef spec1 w)) := by
  dsimp only [dats]

theorem after1_0 (c : Dev nD) (t : Fin cfg1.N) : (dats W c).after 0 t = iblk W c 0 t := by dsimp only [dats]
theorem after1_1 (c : Dev nD) (t : Fin cfg1.N) : (dats W c).after 1 t = iblk W c 1 t := by dsimp only [dats]
theorem after1_2 (c : Dev nD) (t : Fin cfg1.N) : (dats W c).after 2 t = iblk W c 2 t := by dsimp only [dats]
theorem after1_3 (c : Dev nD) (t : Fin cfg1.N) : (dats W c).after 3 t = dyBlk W c t junkDy := by dsimp only [dats]
theorem after1_4 (c : Dev nD) (t : Fin cfg1.N) : (dats W c).after 4 t = accBlk W c t junkAcc := by dsimp only [dats]

theorem before1_0 (c : Dev nD) (t : Fin cfg1.N) (d) : (dats W c).before 0 t d = sBlk W c t :=
  ((dats W c).before_in_eq_fetched 0 rfl (fun _ => rfl) (fun _ _ _ => rfl) (fun t => by rw [after1_0]; unfold Dat.blockOf iblk; rw [A_eq]) t d).trans
    (by unfold Dat.fetched Dat.blockOf sBlk iblk; rw [A_eq]; try rfl)
theorem before1_1 (c : Dev nD) (t : Fin cfg1.N) (d) : (dats W c).before 1 t d = invBlk W c t :=
  ((dats W c).before_in_eq_fetched 1 rfl (fun _ => rfl) (fun _ _ _ => rfl) (fun t => by rw [after1_1]; unfold Dat.blockOf iblk; rw [A_eq]) t d).trans
    (by unfold Dat.fetched Dat.blockOf invBlk iblk; rw [A_eq]; try rfl)
theorem before1_2 (c : Dev nD) (t : Fin cfg1.N) (d) : (dats W c).before 2 t d = xtBlk W c t :=
  ((dats W c).before_in_eq_fetched 2 rfl (fun _ => rfl) (fun _ _ _ => rfl) (fun t => by rw [after1_2]; unfold Dat.blockOf iblk; rw [A_eq]) t d).trans
    (by unfold Dat.fetched Dat.blockOf xtBlk iblk; rw [A_eq]; try rfl)
theorem before1_3 (c : Dev nD) (t : Fin cfg1.N) (d) : (dats W c).before 3 t d = dyBlk W c t d := by
  unfold Dat.before; rw [if_pos (fetch1_3 t)]; unfold Dat.fetched Dat.blockOf dyBlk iblk; rw [A_eq]
theorem before1_4 (c : Dev nD) (t : Fin cfg1.N) (d) : (dats W c).before 4 t d = accBlk W c t d := by
  unfold Dat.before; rw [if_pos (fetch1_4 t)]; unfold Dat.fetched Dat.blockOf accBlk iblk; rw [A_eq]

/-- What the body is called with at point `t`, -/
def bodyPre (c : Dev nD) (t : Fin cfg1.N) : sProp 𝕄 :=
  iprop((dats W c).Φ t.castSucc ∗ (dats W c).owesAt () t.castSucc
    ∗ (∃ d, owns (c : Thread nD τ) (ms1_0 t) fullShare ((dats W c).before 0 t d))
    ∗ (∃ d, owns (c : Thread nD τ) (ms1_1 t) fullShare ((dats W c).before 1 t d))
    ∗ (∃ d, owns (c : Thread nD τ) (ms1_2 t) fullShare ((dats W c).before 2 t d))
    ∗ (∃ d, owns (c : Thread nD τ) (ms1_3 t) fullShare ((dats W c).before 3 t d))
    ∗ (∃ d, owns (c : Thread nD τ) (ms1_4 t) fullShare ((dats W c).before 4 t d))
    ∗ (∃ Y, ⌜(rdats W c).Finds 5 t Y⌝ ∗ owns (c : Thread nD τ) (ms1_5 t) fullShare Y)
    ∗ (∃ Y, ⌜(rdats W c).Finds 6 t Y⌝ ∗ owns (c : Thread nD τ) (ms1_6 t) fullShare Y))

/-- and what it returns. -/
def bodyPost (c : Dev nD) (t : Fin cfg1.N) : sProp 𝕄 :=
  iprop((dats W c).Φ t.succ ∗ (dats W c).owesAt () t.succ
    ∗ owns (c : Thread nD τ) (ms1_0 t) fullShare (sBlk W c t)
    ∗ owns (c : Thread nD τ) (ms1_1 t) fullShare (invBlk W c t)
    ∗ owns (c : Thread nD τ) (ms1_2 t) fullShare (xtBlk W c t)
    ∗ (∃ d, owns (c : Thread nD τ) (ms1_3 t) fullShare (dyBlk W c t d))
    ∗ (∃ d, owns (c : Thread nD τ) (ms1_4 t) fullShare (accBlk W c t d))
    ∗ (∃ X, ⌜RlDw W c t X⌝ ∗ owns (c : Thread nD τ) (ms1_5 t) fullShare X)
    ∗ (∃ X, ⌜RlCodes W c t X⌝ ∗ owns (c : Thread nD τ) (ms1_6 t) fullShare X))

set_option maxHeartbeats 1600000 in
/-- The body at any point. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4]
  rw [show (dats W c).owesAt () t.succ = (dats W c).owesAt () t.castSucc from rfl]
  rw [show (dats W c).Φ t.succ = (dats W c).Φ t.castSucc from rfl]
  iintro ⟨HΦ, Ho, ⟨%d0, H0⟩, ⟨%d1, H1⟩, ⟨%d2, H2⟩, ⟨%d3, H3⟩, ⟨%d4, H4⟩, ⟨%Y5, -, H5⟩, ⟨%Y6, -, H6⟩⟩
  iapply (run c (grid1.coords t) _ _ _ _ _ _ _ _ _ _ _ _ _ _ (sBlk W c t) (invBlk W c t) (xtBlk W c t) (dyBlk W c t d3) (accBlk W c t d4) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexists _; iexact H3
  isplitl [H4]; · iexists _; iexact H4
  isplitl [H5]
  · iexists _; isplitr
    swap; · iexact H5
    ipureintro; exact ⟨d3, d4, rfl⟩
  iexists _; isplitr
  swap; · iexact H6
  ipureintro; exact ⟨d3, rfl⟩

theorem defs₀_row (t : Fin cfg1.N) :
    defs₀ (F := F) .tc cfg1.body (cfg1.bodyArgs t (cfg1.slots t)) = bodyAt1 t := by
  unfold defs₀; rw [Defs.onTc_tc]

theorem dyBlk_cut (c : Dev nD) (t : Fin cfg1.N) (d) :
    (cfg1.win 3).fill (cfg1.grid.coords t) d ((cfg1.win 3).cut (cfg1.grid.coords t) ((dats W c).after 3 t)) = dyBlk W c t d := by
  rw [after1_3]; unfold dyBlk; rw [Window.cut_fill]
theorem accBlk_cut (c : Dev nD) (t : Fin cfg1.N) (d) :
    (cfg1.win 4).fill (cfg1.grid.coords t) d ((cfg1.win 4).cut (cfg1.grid.coords t) ((dats W c).after 4 t)) = accBlk W c t d := by
  rw [after1_4]; unfold accBlk; rw [Window.cut_fill]

/-- The body obligation of the second call. -/
theorem body_obligation (c : Dev nD) : BodyObligationRel (dats (F := F) W c) (defs₀ (F := F)) Variants.none () Set.univ marked (Rl W c) := fun t => by
  rw [bigSep_W1, bigSep_W1, defs₀_row]
  refine triple_restated (sound_body W c t) rfl .rfl fun _ => ?_
  unfold bodyPost
  simp only [← dyBlk_cut, ← accBlk_cut]
  unfold sBlk invBlk xtBlk
  rw [← after1_0, ← after1_1, ← after1_2]
  exact .rfl

end Cert.KernelIdeal.Wgrad

end
-- ==== Proof.Run.lean ====
/- The whole run, at any float values. @main is: the host reshapes, the first call, the scalar product of the scales, the second call.
   The first call's outputs are named (`V2`); of the second call's outputs is known what `RDat.ArrAt` says of them: every block written
   back is one that `Wgrad.Rl` allows. `run` says how every final memory looks; the frame claims and the value claim are read off it. -/
module

public import proofs.«01_k».proof.Proof.AmaxBody
public import proofs.«01_k».proof.Proof.WgradBody
public import proofs.«01_k».proof.Proof.Gen.KernelIdeal.Regions
public import Idealize.ShloMosaic.Lib.Pipeline.RegionsLoop
public import Idealize.ShloMosaic.Lib.Pipeline.RegionArraysF

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What the first call leaves in its outputs: the scale, its inverse, the transposed codes of `x`. -/
def scaleArr (c : Dev nD) : Buf (Elt F) ((c : Thread nD τ).loc main_v2_0) := (Amax.dats (V1 m) c).arrAt 2 cfg0.N
def invArr (c : Dev nD) : Buf (Elt F) ((c : Thread nD τ).loc main_v2_1) := (Amax.dats (V1 m) c).arrAt 3 cfg0.N
def xtArr (c : Dev nD) : Buf (Elt F) ((c : Thread nD τ).loc main_v2_2) := (Amax.dats (V1 m) c).arrAt 4 cfg0.N

/-- The buffers after the first call, -/
def V2 (c : Dev nD) : Valuation τ sig (Elt F) :=
  Function.update (Function.update (Function.update (V1 m c) main_v2_0 (scaleArr m c)) main_v2_1 (invArr m c)) main_v2_2 (xtArr m c)
/-- after the host operations between the calls, -/
def V3 (c : Dev nD) : Valuation τ sig (Elt F) := StableHlo.after hostOps1 (V2 m c)
/-- and after the second call, if it leaves `G5` and `G6`. -/
def V4 (c : Dev nD) (G5 : Buf (Elt F) ((c : Thread nD τ).loc main_v6_0)) (G6 : Buf (Elt F) ((c : Thread nD τ).loc main_v6_1)) :
    Valuation τ sig (Elt F) :=
  Function.update (Function.update (V3 m c) main_v6_0 G5) main_v6_1 G6

theorem V2_of (c : Dev nD) (r : Ref sig .tc) (h : r ∉ ([main_v2_0, main_v2_1, main_v2_2] : List (Ref sig .tc))) : V2 m c r = V1 m c r := by
  simp only [V2, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1), Function.update_of_ne (StableHlo.devRef_ne_of_ne (List.ne_of_not_mem_cons (List.not_mem_of_not_mem_cons (List.not_mem_of_not_mem_cons h))) : (Proc.devRef .tc r : DevRef τ sig) ≠ Proc.devRef .tc main_v2_2)]
theorem V2_xt (c : Dev nD) : V2 m c main_v2_2 = xtArr m c := by
  unfold V2; exact Function.update_self _ _ _
theorem V2_inv (c : Dev nD) : V2 m c main_v2_1 = invArr m c := by
  unfold V2
  rw [Function.update_of_ne (StableHlo.devRef_ne_of_ne (by decide) : (Proc.devRef .tc main_v2_1 : DevRef τ sig) ≠ Proc.devRef .tc main_v2_2)]
  exact Function.update_self _ _ _
theorem V2_scale (c : Dev nD) : V2 m c main_v2_0 = scaleArr m c := by
  unfold V2
  rw [Function.update_of_ne (StableHlo.devRef_ne_of_ne (by decide) : (Proc.devRef .tc main_v2_0 : DevRef τ sig) ≠ Proc.devRef .tc main_v2_2),
    Function.update_of_ne (StableHlo.devRef_ne_of_ne (by decide) : (Proc.devRef .tc main_v2_0 : DevRef τ sig) ≠ Proc.devRef .tc main_v2_1)]
  exact Function.update_self _ _ _
theorem V3_of (c : Dev nD) (r : Ref sig .tc) (h : r ∉ hostOps1_W) : V3 m c r = V2 m c r :=
  StableHlo.after_of_writes_sub hostOps1 _ hostOps1_writes h
theorem V4_of (c : Dev nD) (G5) (G6) (r : Ref sig .tc) (h : r ∉ ([main_v6_0, main_v6_1] : List (Ref sig .tc))) : V4 m c G5 G6 r = V3 m c r := by
  simp only [V4, Function.update_of_ne (StableHlo.devRef_ne_of_ne (List.ne_of_not_mem_cons h) : (Proc.devRef .tc r : DevRef τ sig) ≠ Proc.devRef .tc main_v6_0), Function.update_of_ne (StableHlo.devRef_ne_of_ne (List.ne_of_not_mem_cons (List.not_mem_of_not_mem_cons h)) : (Proc.devRef .tc r : DevRef τ sig) ≠ Proc.devRef .tc main_v6_1)]
theorem V4_codes (c : Dev nD) (G5) (G6) : V4 m c G5 G6 main_v6_1 = G6 := by
  unfold V4; exact Function.update_self _ _ _
theorem V4_dw (c : Dev nD) (G5) (G6) : V4 m c G5 G6 main_v6_0 = G5 := by
  unfold V4
  rw [Function.update_of_ne (StableHlo.devRef_ne_of_ne (by decide) : (Proc.devRef .tc main_v6_0 : DevRef τ sig) ≠ Proc.devRef .tc main_v6_1)]
  exact Function.update_self _ _ _

/-- What no item writes ends as launched. -/
theorem V4_arg (c : Dev nD) (G5) (G6) (r : Ref sig .tc) (h4 : r ∉ ([main_v6_0, main_v6_1] : List (Ref sig .tc))) (h3 : r ∉ hostOps1_W)
    (h2 : r ∉ ([main_v2_0, main_v2_1, main_v2_2] : List (Ref sig .tc))) (h1 : r ∉ hostOps0_W) : V4 m c G5 G6 r = m ((c : Thread nD τ).loc r) :=
  (V4_of m c G5 G6 r h4).trans <| (V3_of m c r h3).trans <| (V2_of m c r h2).trans <| (V1_of m c r h1).trans rfl

theorem V4_scale (c : Dev nD) (G5) (G6) : V4 m c G5 G6 main_v2_0 = scaleArr m c :=
  (V4_of m c G5 G6 main_v2_0 (by decide)).trans <| (V3_of m c main_v2_0 (by decide)).trans (V2_scale m c)

/-! ## The calls' proof data -/

/-- The proof data of the two calls, -/
def pdats : (p : Fin 2) → (c : Dev nD) → Dat τ (Elt F) Unit ℕ (UR sig nD τ) ℕ (cfgs p) c
  | ⟨0, _⟩ => Amax.dats (V1 m)
  | ⟨1, _⟩ => Wgrad.dats (V3 m)
/-- read relationally, the second call's outputs held to `Wgrad.Rl`. -/
def rdats : (p : Fin 2) → (c : Dev nD) → RDat τ (Elt F) Unit ℕ (UR sig nD τ) ℕ (cfgs p) c
  | ⟨0, _⟩ => fun c => (Amax.dats (V1 m) c).toR
  | ⟨1, _⟩ => Wgrad.rdats (V3 m)

abbrev L : GSem nD τ sig → Finset Unit := fun _ => ∅
abbrev lv : GSem nD τ sig → Unit → ℕ := fun _ _ => 0

/-- What rides beside the buffers: the generator register and the core's `owes`. -/
abbrev R (c : Dev nD) : sProp 𝕄 := iprop((∃ r, prngReg c r) ∗ ∃ Wd, owes (c : Thread nD τ) (0 : CellTallies nD τ sig Unit) Wd)

/-- The unscoped buffers at a valuation. -/
abbrev at_ (c : Dev nD) (V : Valuation τ sig (Elt F)) : sProp 𝕄 := StableHlo.held (c : Thread nD τ) (Pipeline.ucRefs τ sig) V

theorem share0 (c : Dev nD) (w) : (pdats m 0 c).share w = fullShare := (pdats m 0 c).share_full (fun _ => rfl) w
theorem share1 (c : Dev nD) (w) : (pdats m 1 c).share w = fullShare := (pdats m 1 c).share_full (fun _ => rfl) w

/-- The second call's arrays after it: some contents that the relational data allow. -/
theorem arraysAt1 (c : Dev nD) : ((rdats m 1 c).arraysAt cfg1.N : sProp 𝕄)
    ⊢ iprop(∃ A : (w : Fin cfg1.W) → Buf (Elt F) ((cfg1.win w).arr.view.loc (c.tc : Thread nD τ)),
      ⌜∀ w, (Wgrad.rdats (V3 m) c).ArrAt w cfg1.N (A w)⌝ ∗ (pdats m 1 c).arrays A) := by
  show ((Wgrad.rdats (V3 m) c).arraysAt cfg1.N : sProp 𝕄) ⊢ iprop(∃ A : (w : Fin cfg1.W) → Buf (Elt F) ((cfg1.win w).arr.view.loc (c.tc : Thread nD τ)),
      ⌜∀ w, (Wgrad.rdats (V3 m) c).ArrAt w cfg1.N (A w)⌝ ∗ (Wgrad.dats (V3 m) c).arrays A)
  unfold RDat.arraysAt Dat.arrays
  refine (BI.bigSep_exists_pi Finset.univ _).trans ?_
  iintro ⟨%A, H⟩
  ihave H' := (BI.bigSep_pure_sep Finset.univ (fun w => (Wgrad.rdats (V3 m) c).ArrAt w cfg1.N (A w)) _) $$ H
  icases H' with ⟨%hA, H⟩
  iexists A
  isplitr
  · ipureintro; exact fun w => hA w (Finset.mem_univ w)
  iexact H

/-! ## The calls as segments -/

set_option backward.isDefEq.respectTransparency.types false in
/-- The first call, entered from the buffers at `V1`, left at `V2`. -/
def reg0 : RDat.RegionSeg (pcfgs (F := F)) adm (rdats m) () defs₀ Variants.none L lv 0 where
  win := launch0.win.to₀
  block_pos := launch0.block_pos
  stage_whole := launch0.stage_whole
  K := PEmpty
  osem k := k.elim
  ho := Pipeline.OwnSemFacts.none _
  hbody c := (Amax.body_obligation (V1 m) c).toR
  hwaits := RDat.hwaits_of_owed_zero _ _ _ _ L lv 0 fun _ _ => rfl
  pre c := iprop(at_ c (V1 m c) ∗ R c)
  post c := iprop(at_ c (V2 m c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    show _ ⊢ |={Set.univ}=> iprop((pdats m 0 c).arrays ((pdats m 0 c).arrAt · 0) ∗ Pipeline.prefHeld (pcfgs (F := F) 0).pre c (fun _ => fullShare) (adm 0).1
        ∗ (pdats m 0 c).owesAt () 0 ∗ _ ∗ _)
    rw [Pipeline.ownSems0_none, show at_ c (V1 m c) = unscopedBufs c (fun b => V1 m c b) from (Pipeline.unscopedBufs_held c _).symm]
    have hsplit := Pipeline.arrays_of_unscopedBufs (p := 0) (pcfgs (F := F)) adm (pdats m) launch0.win launch0.arr_whole c
      (share0 m c) (fun b => V1 m c b) fun w => Amax.A_eq (V1 m) c w
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Dat.owesAt Pipeline.owesWithin
      icases HO with ⟨%Wd, HO⟩; iexists Wd; isplitr; · ipureintro; exact fun _ _ => Or.inl trivial
      iexact HO
    isplitl [Hp] <;> iassumption
  hin c := (show _ ⊢ Pipeline.ΦA spec0 c from by
    unfold Pipeline.ΦA
    iintro ⟨Hp, -, Hr⟩
    isplitl [Hr] <;> iassumption).trans (Amax.hin (V1 m) c)
  hout c := (Amax.hout (V1 m) c).trans (by
    rw [Pipeline.ownSems0_none]
    unfold Pipeline.ΦA
    iintro ⟨Hr, Hp⟩
    isplitl [Hp]; · iexact Hp
    isplitr; · iempintro
    iexact Hr)
  hexit c := by
    rw [show at_ c (V2 m c) = unscopedBufs c (fun b => V2 m c b) from (Pipeline.unscopedBufs_held c _).symm]
    have hjoin := Pipeline.unscopedBufs_of_arrays (p := 0) (pcfgs (F := F)) adm (Ix := Unit) (Name := ℕ) (U := UR sig nD τ) (Lvl := ℕ) launch0.win launch0.arr_whole c
      (pdats m) (share0 m c) (fun b => V1 m c b) (fun b => V2 m c b) ((Amax.dats (V1 m) c).arrAt · cfg0.N)
      (fun w => by
        fin_cases w
        · exact ((Amax.dats (V1 m) c).arrAt_in 0 rfl _).trans (V2_of m c main_v1 (by decide)).symm
        · exact ((Amax.dats (V1 m) c).arrAt_in 1 rfl _).trans (V2_of m c main_v0 (by decide)).symm
        · exact (V2_scale m c).symm
        · exact (V2_inv m c).symm
        · exact (V2_xt m c).symm)
      (fun b hb => V2_of m c b fun h => hb (by
        simp only [List.mem_cons, List.not_mem_nil, _root_.or_false] at h
        rcases h with rfl | rfl | rfl
        · exact Finset.mem_image.mpr ⟨2, Finset.mem_univ _, rfl⟩
        · exact Finset.mem_image.mpr ⟨3, Finset.mem_univ _, rfl⟩
        · exact Finset.mem_image.mpr ⟨4, Finset.mem_univ _, rfl⟩))
    have hpost : ((rdats m 0 c).arraysAt cfg0.N : sProp 𝕄) ⊢ (pdats m 0 c).arrays ((Amax.dats (V1 m) c).arrAt · cfg0.N) :=
      (Amax.dats (V1 m) c).toR_arraysAt_post cfg0.N
    iintro ⟨Ha, HO, Hp, Hrest⟩
    ihave Ha := hpost $$ Ha
    imodintro
    isplitl [Ha Hrest]
    · iapply hjoin; isplitl [Ha] <;> iassumption
    isplitl [Hp]; · iexact Hp
    unfold Pipeline.RDat.owesAt Pipeline.owesWithin
    icases HO with ⟨%Wd, -, HO⟩; iexists Wd; iexact HO

/-- What is known of the second call's outputs. -/
def Left (c : Dev nD) (G5 : Buf (Elt F) ((c : Thread nD τ).loc main_v6_0)) (G6 : Buf (Elt F) ((c : Thread nD τ).loc main_v6_1)) : Prop :=
  (Wgrad.rdats (V3 m) c).ArrAt 5 cfg1.N G5 ∧ (Wgrad.rdats (V3 m) c).ArrAt 6 cfg1.N G6

/-- An input array of the second call ends as the call found it. -/
theorem in1 (c : Dev nD) (w : Fin cfg1.W) (hw : (cfg1.win w).isOut = false) (G) (h : (Wgrad.rdats (V3 m) c).ArrAt w cfg1.N G) :
    G = V3 m c (Proc.devRef .tc (Pipeline.arrRef spec1 w)) :=
  by rw [(Wgrad.rdats (V3 m) c).ArrAt_in w hw] at h; exact h.trans (Wgrad.A_eq (V3 m) c w)

set_option backward.isDefEq.respectTransparency.types false in
/-- The second call, entered from the buffers at `V3`, left at `V4` of outputs that `Left` allows. -/
def reg1 : RDat.RegionSeg (pcfgs (F := F)) adm (rdats m) () defs₀ Variants.none L lv 1 where
  win := launch1.win.to₀
  block_pos := launch1.block_pos
  stage_whole := launch1.stage_whole
  K := PEmpty
  osem k := k.elim
  ho := Pipeline.OwnSemFacts.none _
  hbody c := (Wgrad.body_obligation (V3 m) c).toRRel
  hwaits := RDat.hwaits_of_owed_zero _ _ _ _ L lv 1 fun _ _ => rfl
  pre c := iprop(at_ c (V3 m c) ∗ R c)
  post c := iprop((∃ G5 G6, ⌜Left m c G5 G6⌝ ∗ at_ c (V4 m c G5 G6)) ∗ ∃ Wd, owes (c : Thread nD τ) (0 : CellTallies nD τ sig Unit) Wd)
  X c := iprop(∃ r, prngReg c r)
  Y c := iprop(∃ r, prngReg c r)
  Z c := Pipeline.unscopedRest (Ix := Unit) (Name := ℕ) (U := UR sig nD τ) (Lvl := ℕ) spec1 c (fun b => V3 m c b)
  hentry c := by
    show _ ⊢ |={Set.univ}=> iprop((pdats m 1 c).arrays ((pdats m 1 c).arrAt · 0) ∗ Pipeline.prefHeld (pcfgs (F := F) 1).pre c (fun _ => fullShare) (adm 1).1
        ∗ (pdats m 1 c).owesAt () 0 ∗ _ ∗ _)
    rw [Pipeline.ownSems0_none, show at_ c (V3 m c) = unscopedBufs c (fun b => V3 m c b) from (Pipeline.unscopedBufs_held c _).symm]
    have hsplit := Pipeline.arrays_of_unscopedBufs (p := 1) (pcfgs (F := F)) adm (pdats m) launch1.win launch1.arr_whole c
      (share1 m c) (fun b => V3 m c b) fun w => Wgrad.A_eq (V3 m) c w
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Dat.owesAt Pipeline.owesWithin
      icases HO with ⟨%Wd, HO⟩; iexists Wd; isplitr; · ipureintro; exact fun _ _ => Or.inl trivial
      iexact HO
    isplitl [Hp] <;> iassumption
  hin c := (show _ ⊢ Pipeline.ΦA spec1 c from by
    unfold Pipeline.ΦA
    iintro ⟨Hp, -, Hr⟩
    isplitl [Hr] <;> iassumption).trans .rfl
  hout c := (show Pipeline.ΦA spec1 c ⊢ _ from by
    rw [Pipeline.ownSems0_none]
    unfold Pipeline.ΦA
    iintro ⟨Hr, Hp⟩
    isplitl [Hp]; · iexact Hp
    isplitr; · iempintro
    iexact Hr)
  hexit c := by
    iintro ⟨Ha, HO, -, Hrest⟩
    ihave Ha := (arraysAt1 m c) $$ Ha
    icases Ha with ⟨%A, %hA, Ha⟩
    have hjoin := Pipeline.unscopedBufs_of_arrays (p := 1) (pcfgs (F := F)) adm (Ix := Unit) (Name := ℕ) (U := UR sig nD τ) (Lvl := ℕ) launch1.win launch1.arr_whole c
      (pdats m) (share1 m c) (fun b => V3 m c b) (fun b => V4 m c (A 5) (A 6) b) A
      (fun w => by
        fin_cases w
        · exact (in1 m c 0 rfl _ (hA 0)).trans (V4_of m c _ _ main_v5 (by decide)).symm
        · exact (in1 m c 1 rfl _ (hA 1)).trans (V4_of m c _ _ main_v2_1 (by decide)).symm
        · exact (in1 m c 2 rfl _ (hA 2)).trans (V4_of m c _ _ main_v2_2 (by decide)).symm
        · exact (in1 m c 3 rfl _ (hA 3)).trans (V4_of m c _ _ main_v1 (by decide)).symm
        · exact (in1 m c 4 rfl _ (hA 4)).trans (V4_of m c _ _ main_arg3 (by decide)).symm
        · exact (V4_dw m c _ _).symm
        · exact (V4_codes m c _ _).symm)
      (fun b hb => V4_of m c _ _ b fun h => hb (by
        simp only [List.mem_cons, List.not_mem_nil, _root_.or_false] at h
        rcases h with rfl | rfl
        · exact Finset.mem_image.mpr ⟨5, Finset.mem_univ _, rfl⟩
        · exact Finset.mem_image.mpr ⟨6, Finset.mem_univ _, rfl⟩))
    imodintro
    isplitl [Ha Hrest]
    · iexists (A 5), (A 6)
      isplitr; · ipureintro; exact ⟨hA 5, hA 6⟩
      rw [show at_ c (V4 m c (A 5) (A 6)) = unscopedBufs c (fun b => V4 m c (A 5) (A 6) b) from (Pipeline.unscopedBufs_held c _).symm]
      iapply hjoin; isplitl [Ha] <;> iassumption
    unfold Pipeline.RDat.owesAt Pipeline.owesWithin
    icases HO with ⟨%Wd, -, HO⟩; iexists Wd; iexact HO

/-! ## The run -/

/-- The host operations before and between the calls. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

/-- @main as segments, the same on every core. -/
abbrev segs (_ : Dev nD) : List (RDat.Seg (pcfgs (F := F)) adm (rdats m) () defs₀ Variants.none L lv) :=
  [.host (host0 m), .region (reg0 m), .host (host1 m), .region (reg1 m)]

/-- What is known of a final memory on core `c`. -/
def Final (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ Left m c (s.mem ((c.tc : Thread nD τ).loc main_v6_0)) (s.mem ((c.tc : Thread nD τ).loc main_v6_1))
  ∧ s.mem ((c.tc : Thread nD τ).loc main_v2_0) = scaleArr m c

theorem uc_mem (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

/-- The end: the buffers read off the last valuation. -/
theorem hfin (c : Dev nD) (s' : Phys nD τ sig (Elt F)) :
    iprop((∃ G5 G6, ⌜Left m c G5 G6⌝ ∗ at_ c (V4 m c G5 G6)) ∗ SI s') ⊢ (|={Set.univ}=> iprop(⌜Final m c s'.mem⌝ ∗ SI s') : sProp 𝕄) := by
  unfold at_ StableHlo.held
  iintro ⟨⟨%G5, %G6, %hL, Hh⟩, HSI⟩
  ihave Hr := (pointsTo_read_all (Pipeline.ucRefs τ sig) (fun b => ((c : Thread nD τ).1, b)) (V4 m c G5 G6) s') $$ [Hh HSI]
  · isplitl [Hh] <;> iassumption
  icases Hr with ⟨%h, HSI⟩
  imodintro
  isplitr
  · ipureintro
    have h5 : s'.mem.mem ((c.tc : Thread nD τ).loc main_v6_0) = G5 := (h _ (uc_mem main_v6_0 (by decide))).trans (V4_dw m c G5 G6)
    have h6 : s'.mem.mem ((c.tc : Thread nD τ).loc main_v6_1) = G6 := (h _ (uc_mem main_v6_1 (by decide))).trans (V4_codes m c G5 G6)
    refine ⟨⟨(h _ (uc_mem main_arg0 (by decide))).trans (V4_arg m c G5 G6 main_arg0 (by decide) (by decide) (by decide) (by decide)),
      (h _ (uc_mem main_arg1 (by decide))).trans (V4_arg m c G5 G6 main_arg1 (by decide) (by decide) (by decide) (by decide)),
      (h _ (uc_mem main_arg2 (by decide))).trans (V4_arg m c G5 G6 main_arg2 (by decide) (by decide) (by decide) (by decide)),
      (h _ (uc_mem main_arg3 (by decide))).trans (V4_arg m c G5 G6 main_arg3 (by decide) (by decide) (by decide) (by decide))⟩, ?_,
      (h _ (uc_mem main_v2_0 (by decide))).trans (V4_scale m c G5 G6)⟩
    rw [h5, h6]; exact hL
  · iexact HSI

set_option backward.isDefEq.respectTransparency.types false in
/-- Every weakly fair execution of @main from `m` with zero counters terminates, and every final state is as `Final` says on
    every core, every semaphore counter at zero. -/
theorem run : θ_run defs (onTc (τ := τ) (main (F := F))) ⟨m, fun _ => 0, ρ⟩ (fun r => (∀ c : Dev nD, Final m c r.2) ∧ r.2.sem = fun _ => 0) := by
  refine RDat.θ_run_regions_kit_dev_sems (pcfgs (F := F)) adm (rdats m) () cellOf_inj emb₁ defs₀ Variants.none L lv m ρ main (segs m)
    (fun c Q => by
      rewrite [main_chain c, RDat.Seg.run_eq_chain,
        show (segs m c).map RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(at_ c (V0 m c) ∗ R c))
    (Tₙ := fun c => iprop(∃ G5 G6, ⌜Left m c G5 G6⌝ ∗ at_ c (V4 m c G5 G6)))
    (hch := fun c => ⟨.rfl, .rfl, .rfl, .rfl, .rfl⟩)
    (hinit := by
      refine Pipeline.initEach L lv fun c => ?_
      rw [show unscopedBufs c (fun b => m ((c : Thread nD τ).loc b)) = at_ c (V0 m c) from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => Final m c s) (hfin := fun c s' => hfin m c s')
    (hQ := fun _ h hz => ⟨h, funext fun g => hz g (.inr (regions_no_unscoped g.2))⟩)

/-- The frame: arguments as launched, counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run m ρ)

end Cert.KernelIdeal.Run

end
-- ==== Proof.Scale.lean ====
/- The power-of-two scale, over the extended reals: finding the exponent field of `r` by counting the powers of two that `r`
   reaches, and writing the field into a float, gives the least power of two above `r` (`1` below the normal range and at
   infinity, `2^126` at most); writing the negated exponent gives its inverse. -/
module

public import Idealize.ShloMosaic.PureOps.Ideal.Laws

@[expose] public section

set_option maxRecDepth 16384

noncomputable section

namespace Cert.Scale

open Idealize.ShloMosaic

/-- `2 ^ z`. -/
def pw (z : ℤ) : EReal := (((2 : ℝ) ^ z : ℝ) : EReal)

theorem pw_le_iff {a b : ℤ} : pw a ≤ pw b ↔ a ≤ b := by
  unfold pw; rw [EReal.coe_le_coe_iff]; exact zpow_le_zpow_iff_right₀ (by norm_num)
theorem pw_lt_iff {a b : ℤ} : pw a < pw b ↔ a < b := by
  unfold pw; rw [EReal.coe_lt_coe_iff]; exact zpow_lt_zpow_iff_right₀ (by norm_num)
theorem pw_zero : pw 0 = 1 := by unfold pw; simp
theorem pw_ne_top (z : ℤ) : pw z ≠ ⊤ := EReal.coe_ne_top _
theorem pw_pos (z : ℤ) : 0 < pw z := by unfold pw; exact EReal.coe_pos.2 (zpow_pos (by norm_num) z)

/-- One over a power of two. -/
theorem div_one_pw (z : ℤ) : Ideal.div 1 (pw z) = pw (-z) := by
  unfold Ideal.div; rw [if_neg (pw_pos z).ne', one_mul]; unfold pw; rw [← EReal.coe_inv, zpow_neg]

/-! ## A float written by its exponent field -/

theorem fields : ∀ j : Fin 256, ((BitVec.ofNat 32 j.val <<< 23).extractLsb' 31 1 == 1#1) = false
    ∧ ((BitVec.ofNat 32 j.val <<< 23).extractLsb' 23 8).toNat = j.val
    ∧ ((BitVec.ofNat 32 j.val <<< 23).extractLsb' 0 23).toNat = 0 := by decide +kernel

theorem ofBits_f32 (b : BitVec 32) : Ideal.ofBits .f32 b = Ideal.ieee 8 23 b := rfl

/-- The float whose exponent field is `j`, its fraction zero. -/
theorem ofBits_field (j : ℕ) (h1 : 1 ≤ j) (h2 : j ≤ 254) : Ideal.ofBits .f32 (BitVec.ofNat 32 j <<< 23) = pw ((j : ℤ) - 127) := by
  obtain ⟨e1, e2, e3⟩ := fields ⟨j, by omega⟩
  dsimp only at e1 e2 e3
  rw [ofBits_f32]
  unfold Ideal.ieee pw
  simp only [e2, e3, show (8 + 23 : ℕ) = 31 from rfl, e1]
  rw [if_neg (by omega), if_neg (by omega)]
  refine congrArg (fun x : ℝ => (x : EReal)) ?_
  rw [if_neg (by decide), one_mul, show ((2 ^ 23 + 0 : ℕ) : ℝ) = (2 : ℝ) ^ (23 : ℤ) by norm_num, ← zpow_add₀ (by norm_num)]
  refine congrArg (fun z : ℤ => (2 : ℝ) ^ z) ?_
  norm_num

theorem ofBits_field_255 : Ideal.ofBits .f32 (BitVec.ofNat 32 255 <<< 23) = ⊤ := by
  obtain ⟨e1, e2, e3⟩ := fields 255
  rw [ofBits_f32]
  unfold Ideal.ieee
  change (BitVec.extractLsb' 31 1 (BitVec.ofNat 32 255 <<< 23) == 1#1) = false at e1
  change (BitVec.extractLsb' 23 8 (BitVec.ofNat 32 255 <<< 23)).toNat = 255 at e2
  change (BitVec.extractLsb' 0 23 (BitVec.ofNat 32 255 <<< 23)).toNat = 0 at e3
  simp only [e2, e3, show (8 + 23 : ℕ) = 31 from rfl, e1]
  norm_num

/-! ## The kernel's scale -/

/-- The float at which exponent field `k` starts. -/
def start (k : Fin 256) : EReal := Ideal.ofBits .f32 (IntOp.shli .vector (BitVec.ofNat 32 k.val) 23#32)
/-- How many of the 255 nonzero fields `r` reaches. -/
def reached (r : EReal) : ℕ := (Finset.univ.filter fun k : Fin 256 => 0 < k.val ∧ start k ≤ r).card
/-- The exponent found from that number: none below the normal range and at infinity. -/
def expo (n : BitVec 32) : BitVec 32 :=
  if IntOp.ori (IntOp.cmpi .eq n 0#32) (IntOp.cmpi .eq n 255#32) = 1 then 0#32 else IntOp.subi n 126#32
/-- The exponent held to ±126, and the field it is written as. -/
def fieldOf (e : BitVec 32) : BitVec 32 := IntOp.addi (IntOp.minsi 126#32 (IntOp.maxsi 4294967170#32 e)) 127#32
/-- The float of that field. -/
def twoTo (e : BitVec 32) : EReal := Ideal.ofBits .f32 (IntOp.shli .vector (fieldOf e) 23#32)

/-- The exponent, as an integer. -/
def expZ (n : ℕ) : ℤ := if n = 0 ∨ n = 255 then 0 else min ((n : ℤ) - 126) 126

theorem fieldOf_expo : ∀ n : Fin 256, fieldOf (expo (BitVec.ofNat 32 n.val)) = BitVec.ofNat 32 (expZ n.val + 127).toNat
    ∧ fieldOf (IntOp.subi 0#32 (expo (BitVec.ofNat 32 n.val))) = BitVec.ofNat 32 (127 - expZ n.val).toNat
    ∧ -126 ≤ expZ n.val ∧ expZ n.val ≤ 126 := by decide +kernel

theorem shli_eq (x : BitVec 32) : IntOp.shli .vector x 23#32 = x <<< 23 := by
  unfold IntOp.shli; rw [if_pos (by decide)]; rfl

theorem twoTo_expo (n : ℕ) (h : n < 256) : twoTo (expo (BitVec.ofNat 32 n)) = pw (expZ n) := by
  obtain ⟨e, -, l, u⟩ := fieldOf_expo ⟨n, h⟩
  dsimp only at e l u
  unfold twoTo; rw [shli_eq, e, ofBits_field _ (by omega) (by omega)]; congr 1; omega

theorem twoTo_neg_expo (n : ℕ) (h : n < 256) : twoTo (IntOp.subi 0#32 (expo (BitVec.ofNat 32 n))) = pw (-expZ n) := by
  obtain ⟨-, e, l, u⟩ := fieldOf_expo ⟨n, h⟩
  dsimp only at e l u
  unfold twoTo; rw [shli_eq, e, ofBits_field _ (by omega) (by omega)]; congr 1; omega

theorem start_of (k : Fin 256) (h0 : 0 < k.val) (h : k.val ≤ 254) : start k = pw ((k.val : ℤ) - 127) := by
  unfold start; rw [shli_eq, ofBits_field _ (by omega) h]
theorem start_255 (k : Fin 256) (h : k.val = 255) : start k = ⊤ := by
  unfold start; rw [shli_eq, h, ofBits_field_255]

/-- The fields that `r` reaches are the first ones. -/
theorem reached_eq (r : EReal) (n : ℕ) (hn : n ≤ 255) (h : ∀ k : Fin 256, 0 < k.val → (start k ≤ r ↔ k.val ≤ n)) : reached r = n := by
  unfold reached
  rw [Finset.card_eq_of_equiv_fin (n := n)]
  refine ⟨fun k => ⟨k.1.val - 1, ?_⟩, fun i => ⟨⟨i.val + 1, by omega⟩, ?_⟩, ?_, ?_⟩
  · obtain ⟨k, hk⟩ := k; have := (Finset.mem_filter.1 hk).2; have := (h k this.1).1 this.2; dsimp only; omega
  · rw [Finset.mem_filter]; exact ⟨Finset.mem_univ _, Nat.succ_pos _, (h _ (Nat.succ_pos _)).2 i.isLt⟩
  · rintro ⟨k, hk⟩; have := (Finset.mem_filter.1 hk).2; apply Subtype.ext; apply Fin.ext; show k.val - 1 + 1 = k.val; omega
  · intro i; apply Fin.ext; show i.val + 1 - 1 = i.val; omega

theorem reached_small (r : EReal) (h : r < pw (-126)) : reached r = 0 := by
  refine reached_eq r 0 (by omega) fun k hk => ⟨fun hr => ?_, fun hr => by omega⟩
  exfalso
  rcases Nat.lt_or_ge k.val 255 with hlt | hge
  · rw [start_of k hk (by omega)] at hr
    have := pw_lt_iff.1 (lt_of_le_of_lt hr h); omega
  · rw [start_255 k (by omega)] at hr; exact absurd (lt_of_le_of_lt hr h) not_top_lt

theorem reached_top : reached ⊤ = 255 :=
  reached_eq ⊤ 255 le_rfl fun k hk => ⟨fun _ => by omega, fun _ => le_top⟩

/-- Between, the last field reached. -/
theorem exists_reached (r : EReal) (h : ¬ r < pw (-126)) (ht : r ≠ ⊤) :
    ∃ n : ℕ, 1 ≤ n ∧ n ≤ 254 ∧ (∀ b : ℕ, 1 ≤ b → b ≤ 254 → (pw ((b : ℤ) - 127) ≤ r ↔ b ≤ n)) := by
  classical
  have h1 : pw (((1 : ℕ) : ℤ) - 127) ≤ r := by simpa using not_lt.1 h
  let P : ℕ → Prop := fun b => 1 ≤ b ∧ pw ((b : ℤ) - 127) ≤ r
  have hP1 : P 1 := ⟨le_rfl, h1⟩
  refine ⟨Nat.findGreatest P 254, Nat.le_findGreatest (by omega) hP1, Nat.findGreatest_le _, fun b hb1 hb2 => ⟨fun hr => Nat.le_findGreatest hb2 ⟨hb1, hr⟩, fun hb => ?_⟩⟩
  have := (Nat.findGreatest_spec (P := P) (by omega : 1 ≤ 254) hP1).2
  exact le_trans (pw_le_iff.2 (by omega)) this

theorem reached_mid (r : EReal) (ht : r ≠ ⊤) (n : ℕ) (hn : n ≤ 254)
    (h : ∀ b : ℕ, 1 ≤ b → b ≤ 254 → (pw ((b : ℤ) - 127) ≤ r ↔ b ≤ n)) : reached r = n := by
  refine reached_eq r n (by omega) fun k hk => ?_
  rcases Nat.lt_or_ge k.val 255 with hlt | hge
  · rw [start_of k hk (by omega)]; exact h _ hk (by omega)
  · rw [start_255 k (by omega), top_le_iff]; exact ⟨fun e => absurd e ht, fun e => by omega⟩

/-! ## The least power above -/

/-- The reference's candidates: each power `2^-126 … 2^129` above `r`, `2^126` in place of the others. -/
def cand (r : EReal) (k : Fin 256) : EReal := if r < pw ((k.val : ℤ) - 126) then pw ((k.val : ℤ) - 126) else pw 126
/-- The least of them; `1` below the normal range and at infinity. -/
def leastPow (r : EReal) : EReal :=
  if r < pw (-126) ∨ r = ⊤ then 1 else (Finset.univ : Finset (Fin 256)).fold min ⊤ (cand r)

theorem fold_cand (r : EReal) (n : ℕ) (h1 : 1 ≤ n) (hn : n ≤ 254)
    (h : ∀ b : ℕ, 1 ≤ b → b ≤ 254 → (pw ((b : ℤ) - 127) ≤ r ↔ b ≤ n)) :
    (Finset.univ : Finset (Fin 256)).fold min ⊤ (cand r) = pw (min ((n : ℤ) - 126) 126) := by
  apply le_antisymm
  · rw [Finset.fold_min_le]; right
    rcases Nat.lt_or_ge n 252 with hlt | hge
    · refine ⟨⟨n, by omega⟩, Finset.mem_univ _, ?_⟩
      unfold cand
      have : r < pw ((n : ℤ) - 126) := not_le.1 fun hr => by
        have e : ((n + 1 : ℕ) : ℤ) - 127 = (n : ℤ) - 126 := by push_cast; ring
        have := (h (n + 1) (by omega) (by omega)).1 (by rw [e]; exact hr); omega
      dsimp only
      rw [if_pos this]; exact pw_le_iff.2 (by omega)
    · refine ⟨⟨0, by omega⟩, Finset.mem_univ _, ?_⟩
      unfold cand
      have : ¬ r < pw (((0 : ℕ) : ℤ) - 126) := fun hr => by
        have := (h 1 le_rfl (by omega)).2 h1
        exact absurd (lt_of_le_of_lt this hr) (not_lt.2 (pw_le_iff.2 (by norm_num)))
      dsimp only
      rw [if_neg this]; exact pw_le_iff.2 (by omega)
  · rw [Finset.le_fold_min]
    refine ⟨le_top, fun k _ => ?_⟩
    unfold cand
    split
    · rename_i hr
      apply pw_le_iff.2
      have hk := k.isLt
      by_contra hc
      have e : ((k.val + 1 : ℕ) : ℤ) - 127 = (k.val : ℤ) - 126 := by push_cast; ring
      have := (h (k.val + 1) (by omega) (by omega)).2 (by omega)
      rw [e] at this
      exact absurd hr (not_lt.2 this)
    · exact pw_le_iff.2 (by omega)

theorem reached_lt (r : EReal) : reached r < 256 := by
  by_cases h : r < pw (-126)
  · rw [reached_small r h]; omega
  · by_cases ht : r = ⊤
    · rw [ht, reached_top]; omega
    · obtain ⟨n, h1, h2, h3⟩ := exists_reached r h ht; rw [reached_mid r ht n h2 h3]; omega

/-- The exponent found by counting is the reference's. -/
theorem leastPow_eq (r : EReal) : leastPow r = pw (expZ (reached r)) := by
  unfold leastPow expZ
  by_cases h : r < pw (-126)
  · rw [if_pos (Or.inl h), reached_small r h, if_pos (Or.inl rfl), pw_zero]
  · by_cases ht : r = ⊤
    · rw [if_pos (Or.inr ht), ht, reached_top, if_pos (Or.inr rfl), pw_zero]
    · obtain ⟨n, h1, h2, h3⟩ := exists_reached r h ht
      rw [if_neg (by tauto), reached_mid r ht n h2 h3, if_neg (by omega), fold_cand r n h1 h2 h3]

/-- The kernel's scale is the least power of two above `r`, -/
theorem twoTo_reached (r : EReal) : twoTo (expo (BitVec.ofNat 32 (reached r))) = leastPow r := by
  rw [twoTo_expo _ (reached_lt r), leastPow_eq]
/-- and its inverse scale one over it. -/
theorem twoTo_neg_reached (r : EReal) : twoTo (IntOp.subi 0#32 (expo (BitVec.ofNat 32 (reached r)))) = Ideal.div 1 (leastPow r) := by
  rw [twoTo_neg_expo _ (reached_lt r), leastPow_eq, div_one_pw]

/-- At `0` the exponent is `0` already. -/
theorem expo_zero : expo (BitVec.ofNat 32 (reached 0)) = 0#32 := by
  rw [reached_small 0 (pw_pos _)]; decide

/-- The float nearest `1/57344`. -/
def c57344 : EReal := Ideal.ofBits .f32 0x37924925#32

end Cert.Scale

end
-- ==== Proof.MaxAll.lean ====
/- Maxima over whole arrays, over the extended reals: a bound on a maximum is a bound on every element. -/
module

public import Idealize.ShloMosaic.PureOps.Ideal.Laws
public import Idealize.ShloMosaic.Lib.Pipeline.Value

@[expose] public section

noncomputable section

namespace Cert.MaxAll

open Idealize.ShloMosaic

variable {s t : Shape}

/-- A property of every element of a reshaped array is one of every element of the array. -/
theorem shapeCast_all {α : Type} (x : s.Idx → α) (h : s.ShapeCasts t) (P : α → Prop) :
    (∀ i, P (shapeCast t x h i)) ↔ ∀ k, P (x k) := by
  unfold shapeCast
  exact ⟨fun H k => by have := H ((Shape.reshapeEquiv h).symm k); rwa [Equiv.apply_symm_apply] at this, fun H i => H _⟩

/-- A maximum over some axes, started at `-∞`: a bound on all of its results is a bound on all elements. -/
theorem maximum_le {axes : List (Fin s.rank)} {φ : FTy} (src : FVec Ideal s φ) (acc : BitVec φ.bits) (h : s.Reduces axes t)
    (hφ : FKind.Formats φ) (hacc : acc = FKind.maximumf.neutral φ hφ) (hb : Ideal.ofBits φ acc = ⊥) (b : EReal) :
    (∀ j, (multiReduction .maximumf axes t src acc h hφ hacc j : EReal) ≤ b) ↔ ∀ i, (src i : EReal) ≤ b := by
  have key : ∀ j, ((multiReduction .maximumf axes t src acc h hφ hacc j : EReal) ≤ b) ↔ ∀ i, h.drop i = j → (src i : EReal) ≤ b := by
    intro j
    rw [multiReduction_maximumf_eq_fold]
    refine (Finset.fold_max_le (b := (Ideal.ofBits φ acc : EReal)) (f := src) (s := Finset.univ.filter fun i => h.drop i = j) b).trans ?_
    rw [hb]
    constructor
    · intro H i hi; exact H.2 i (Finset.mem_filter.2 ⟨Finset.mem_univ _, hi⟩)
    · intro H; exact ⟨bot_le, fun i hi => H i (Finset.mem_filter.1 hi).2⟩
  exact ⟨fun H i => (key _).1 (H _) i rfl, fun H j => (key j).2 fun i _ => H i⟩

theorem neg_inf_f32 : Ideal.ofBits .f32 0xFF800000#32 = ⊥ := by simp [Ideal.ofBits, Ideal.ieee]
theorem pos_inf_f32 : Ideal.ofBits .f32 0x7F800000#32 = ⊤ := by simp [Ideal.ofBits, Ideal.ieee]
theorem neg_inf_bf16 : Ideal.ofBits .bf16 0xFF80#16 = ⊥ := by simp [Ideal.ofBits, Ideal.ieee]

end Cert.MaxAll

end
-- ==== Proof.ScaleKernel.lean ====
/- The kernel's scale and inverse scale, read from its running maximum: the least power of two above the maximum times
   `1/57344`, and one over it. -/
module

public import proofs.«01_k».proof.Proof.Gen.KernelIdeal.Skeleton
public import proofs.«01_k».proof.Proof.Scale
public import proofs.«01_k».proof.Proof.MaxAll
public import Idealize.ShloMosaic.Lib.IndicatorCount
public import Idealize.ShloMosaic.Lib.Pointwise

@[expose] public section

set_option maxRecDepth 16384

noncomputable section

namespace Cert.KernelIdeal.ScaleValue

open Cert.KernelIdeal Cert.KernelIdeal.Gen
open Idealize.ShloMosaic
open Cert.Scale Cert.MaxAll

/-- The mask of a field that `r` reaches. -/
def mask (r : EReal) (k : Fin 256) : BitVec 1 := IntOp.andi (IntOp.cmpi .sgt (BitVec.ofNat 32 k.val) 0#32) (Ideal.cmp .oge r (start k))

theorem sgt_zero : ∀ k : Fin 256, IntOp.cmpi .sgt (BitVec.ofNat 32 k.val) 0#32 = BitVec.ofBool (decide (0 < k.val)) := by decide +kernel

theorem mask_eq_one (r : EReal) (k : Fin 256) : mask r k = 1#1 ↔ 0 < k.val ∧ start k ≤ r := by
  unfold mask; rw [sgt_zero]
  show IntOp.andi (BitVec.ofBool (decide (0 < k.val))) (BitVec.ofBool (decide (start k ≤ r))) = 1#1 ↔ _
  by_cases h1 : 0 < k.val <;> by_cases h2 : start k ≤ r <;> simp [h1, h2, IntOp.andi]

theorem select_mask (m : BitVec 1) : Scalar.select m 1#32 0#32 = m.setWidth 32 := by
  revert m; decide

/-- The number of fields reached, as the kernel counts it. -/
theorem count_eq (r : EReal) : (Finset.univ : Finset (Fin 256)).fold IntOp.addi 0#32 (fun k => Scalar.select (mask r k) 1#32 0#32)
    = BitVec.ofNat 32 (reached r) := by
  simp only [select_mask]
  rw [IndicatorCount.fold_addi_setWidth_eq_card]
  unfold reached
  congr 2
  exact Finset.filter_congr fun k _ => mask_eq_one r k

theorem idx1 (x y : S1.Idx) : x = y := funext fun a => Fin.ext (by
  have e : ∀ a, S1.size a = 1 := by decide
  have := (x a).isLt; have := (y a).isLt; have := e a; omega)

/-- The maximum over the running maximum's elements. -/
def amaxOf (v : Vec Ideal S16x25472 .bf16) : EReal :=
  extractAt ![0, 0, 0] (shapeCast S1x1x1 (multiReduction (F := Ideal) .maximumf [1, 2] S1
    (shapeCast S1x16x25472 (extf .f32 v bitsLt_bf16_f32) shapeCasts_S16x25472_S1x16x25472) 0xFF800000#32 reduces_S1x16x25472_S1 (.inl rfl) rfl) shapeCasts_S1_S1x1x1)
    inpos_S1x1x1_p0_0_0

theorem amaxOf_le (v : Vec Ideal S16x25472 .bf16) (b : EReal) : amaxOf v ≤ b ↔ ∀ j, (v j : EReal) ≤ b := by
  have h := maximum_le (shapeCast S1x16x25472 (extf (F := Ideal) .f32 v bitsLt_bf16_f32) shapeCasts_S16x25472_S1x16x25472) 0xFF800000#32 reduces_S1x16x25472_S1 (.inl rfl) rfl neg_inf_f32 b
  have h2 := shapeCast_all (extf (F := Ideal) .f32 v bitsLt_bf16_f32) shapeCasts_S16x25472_S1x16x25472 (fun x : EReal => x ≤ b)
  refine Iff.trans ?_ (h.trans h2)
  unfold amaxOf extractAt shapeCast
  refine ⟨fun H j => ?_, fun H => H _⟩
  refine le_of_eq_of_le (congrArg _ ?_) H
  exact idx1 _ _

/-- The number of fields reached, as the kernel computes it. -/
def countVec (a : EReal) : IVec S1 32 :=
  multiReductionI .add [1] S1 (select (andi (cmpi .sgt (iota .tc S1x256 32 [1] iota_S1x256_d1_w32) (broadcast S1x256 0#32))
      (cmpf (F := Ideal) (φ := .f32) .oge (broadcastTo S1x256 (mulf (broadcast S1x1 (a : Ideal .f32)) (broadcast S1x1 (Scalar.ofBits .f32 0x37924925#32))) broadcasts_S1x1_S1x256)
        (bitcastToFloat .f32 (shli (iota .tc S1x256 32 [1] iota_S1x256_d1_w32) (broadcast S1x256 23#32)))))
      (broadcast S1x256 1#32) (broadcast S1x256 0#32)) 0#32 reduces_S1x256_S1 rfl

theorem countVec_eq (a : EReal) (j : S1.Idx) : countVec a j = BitVec.ofNat 32 (reached (a * c57344)) := by
  rw [← count_eq]
  refine (multiReductionI_eq_fold _ _ _ _ _ j).trans ?_
  refine (Shape.Reduces.fold_fiber_r2_a1 _ j _ _ _).trans ?_
  refine Finset.fold_congr fun k _ => ?_
  show Scalar.select (IntOp.andi (IntOp.cmpi .sgt (iota .tc S1x256 32 [1] iota_S1x256_d1_w32 _) 0#32)
    (Ideal.cmp .oge (a * c57344) (Ideal.ofBits .f32 (IntOp.shli .vector (iota .tc S1x256 32 [1] iota_S1x256_d1_w32 _) 23#32)))) 1#32 0#32 = _
  rw [iota_single_apply]
  rfl

/-- The exponent the kernel computes from the maximum and that number. -/
def expoVec (a : EReal) (n : IVec S1x1 32) : IVec S1x1 32 :=
  select (cmpf (F := Ideal) (φ := .f32) .oeq (broadcast S1x1 (a : Ideal .f32)) (broadcast S1x1 (Scalar.ofBits .f32 0x00000000#32))) (broadcast S1x1 0#32)
    (select (ori (cmpi .eq n (broadcast S1x1 0#32)) (cmpi .eq n (broadcast S1x1 255#32))) (broadcast S1x1 0#32)
      (subi n (broadcast S1x1 126#32)))

theorem k0_pay7_shape (v : Vec Ideal S16x25472 .bf16) :
    k0_pay7 (F := Ideal) v = expoVec (amaxOf v) (shapeCast S1x1 (countVec (amaxOf v)) shapeCasts_S1_S1x1) := rfl

theorem expoVec_apply (a : EReal) (n : IVec S1x1 32) (z : S1x1.Idx) :
    expoVec a n z = Scalar.select (Ideal.cmp .oeq a (Ideal.ofBits .f32 0x00000000#32)) 0#32 (expo (n z)) := rfl

theorem expoVec_eq (a : EReal) (n : IVec S1x1 32) (z : S1x1.Idx) (h0 : a = 0 → expo (n z) = 0#32) : expoVec a n z = expo (n z) := by
  rw [expoVec_apply, Ideal.ofBits_zero_f32]
  by_cases h : a = 0
  · rw [h0 h]; unfold Scalar.select; split <;> rfl
  · unfold Scalar.select Ideal.cmp
    dsimp only
    rw [decide_eq_false h, if_neg (by decide)]

/-- The exponent the kernel finds. -/
theorem k0_pay7_eq (v : Vec Ideal S16x25472 .bf16) (z : S1x1.Idx) :
    k0_pay7 (F := Ideal) v z = expo (BitVec.ofNat 32 (reached (amaxOf v * c57344))) := by
  have hc : (shapeCast S1x1 (countVec (amaxOf v)) shapeCasts_S1_S1x1) z = BitVec.ofNat 32 (reached (amaxOf v * c57344)) :=
    countVec_eq _ _
  rw [k0_pay7_shape, expoVec_eq, hc]
  intro h
  rw [hc, h, zero_mul, expo_zero]

/-- The scale. -/
theorem scale_eq (v : Vec Ideal S16x25472 .bf16) (z : S1x1.Idx) :
    k0_pay5 (F := Ideal) (k0_pay8 v) z = leastPow (amaxOf v * c57344) := by
  show twoTo (k0_pay7 (F := Ideal) v z) = _
  rw [k0_pay7_eq, twoTo_reached]
/-- The inverse scale. -/
theorem inv_eq (v : Vec Ideal S16x25472 .bf16) (z : S1x1.Idx) :
    k0_pay6 (F := Ideal) (k0_pay7 v) z = Ideal.div 1 (leastPow (amaxOf v * c57344)) := by
  show twoTo (IntOp.subi 0#32 (k0_pay7 (F := Ideal) v z)) = _
  rw [k0_pay7_eq, twoTo_neg_reached]

/-! ## The running maximum -/

theorem part_le (v : Vec Ideal S128x25472 .bf16) (b : EReal) :
    (∀ j, (k0_pay1 (F := Ideal) v j : EReal) ≤ b) ↔ ∀ k, max (v k : EReal) (-(v k : EReal)) ≤ b := by
  refine (maximum_le (φ := .bf16) (shapeCast S8x16x25472 (absf (F := Ideal) (shapeCast S128x25472 v shapeCasts_S128x25472_S128x25472)) shapeCasts_S128x25472_S8x16x25472)
    0xFF80#16 reduces_S8x16x25472_S16x25472 (.inr rfl) rfl neg_inf_bf16 b).trans ?_
  refine (shapeCast_all (absf (F := Ideal) (shapeCast S128x25472 v shapeCasts_S128x25472_S128x25472)) shapeCasts_S128x25472_S8x16x25472 (fun x : EReal => x ≤ b)).trans ?_
  have h := shapeCast_all v shapeCasts_S128x25472_S128x25472 (fun x : EReal => max x (-x) ≤ b)
  refine Iff.trans ?_ h
  rfl

/-- The first point's block, -/
theorem first_le (v : Vec Ideal S128x25472 .bf16) (b : EReal) :
    (∀ j, (k0_pay2 (F := Ideal) v j : EReal) ≤ b) ↔ ∀ k, max (v k : EReal) (-(v k : EReal)) ≤ b :=
  (shapeCast_all (k0_pay1 (F := Ideal) v) shapeCasts_S16x25472_S16x25472 (fun x : EReal => x ≤ b)).trans (part_le v b)
/-- and every later one's, joined to the maximum so far. -/
theorem next_le (v : Vec Ideal S128x25472 .bf16) (w : Vec Ideal S16x25472 .bf16) (b : EReal) :
    (∀ j, (k0_pay3 (F := Ideal) v w j : EReal) ≤ b) ↔ (∀ j, (w j : EReal) ≤ b) ∧ ∀ k, max (v k : EReal) (-(v k : EReal)) ≤ b := by
  rw [← part_le]
  refine (shapeCast_all (maximumf (F := Ideal) w (k0_pay1 v)) shapeCasts_S16x25472_S16x25472 (fun x : EReal => x ≤ b)).trans ?_
  show (∀ k, max (w k : EReal) (k0_pay1 (F := Ideal) v k) ≤ b) ↔ _
  simp only [max_le_iff, forall_and]

end Cert.KernelIdeal.ScaleValue

end
-- ==== Proof.Spec.lean ====
/- What both programs compute, over the extended reals, from the tokens by features `x`, the tokens by outputs `dy`, the
   accumulator and the scale of `x`: the per-tensor power-of-two scale of `dy`, the scaled and clipped `dy` (its codes),
   and the accumulator plus the scaled product of `x` and the codes over the tokens. -/
module

public import proofs.«01_k».proof.Proof.Scale
public import Idealize.ShloMosaic.Lib.Pointwise

@[expose] public section

noncomputable section

namespace Cert.Spec

open Idealize.ShloMosaic
open Cert.Scale

/-- Tokens by outputs, tokens by features, features by outputs. -/
abbrev TokOut : Shape := ⟨2, ![4096, 25472]⟩
abbrev TokIn : Shape := ⟨2, ![4096, 1280]⟩
abbrev InOut : Shape := ⟨2, ![1280, 25472]⟩

/-- The largest magnitude. -/
def amax {ι : Type} (d : ι → EReal) : EReal := ⨆ i, max (d i) (-d i)

theorem amax_le {ι : Type} (d : ι → EReal) (b : EReal) : amax d ≤ b ↔ ∀ i, max (d i) (-d i) ≤ b := iSup_le_iff

/-- What has the bounds of the largest magnitude is it. -/
theorem eq_amax {ι : Type} (d : ι → EReal) (a : EReal) (h : ∀ b, a ≤ b ↔ ∀ i, max (d i) (-d i) ≤ b) : a = amax d :=
  eq_of_forall_ge_iff fun b => (h b).trans (amax_le d b).symm

/-- The scale. -/
def scale (d : TokOut.Idx → EReal) : EReal := leastPow (amax d * c57344)

/-- An element over the scale, clipped to the format's range. -/
def clip (inv x : EReal) : EReal := min (Ideal.ofBits .f32 0x47600000#32) (max (Ideal.ofBits .f32 0xC7600000#32) (x * inv))

/-- The codes. -/
def codes (d : TokOut.Idx → EReal) : TokOut.Idx → EReal := fun i => clip (Ideal.div 1 (scale d)) (d i)

/-- The new accumulator. -/
def dw (x : TokIn.Idx → EReal) (d : TokOut.Idx → EReal) (acc : InOut.Idx → EReal) (xs : EReal) : InOut.Idx → EReal :=
  fun i => acc i + (∑ k : Fin 4096, x (ix2 k (i 0)) * codes d (ix2 k (i 1))) * (xs * scale d)

end Cert.Spec

end
-- ==== Proof.AmaxValue.lean ====
/- What the first call leaves in its three arrays, over the extended reals: the scale of `dy`, the scale's inverse, and the
   transpose of `x`. -/
module

public import proofs.«01_k».proof.Proof.AmaxBody
public import proofs.«01_k».proof.Proof.ScaleKernel
public import proofs.«01_k».proof.Proof.Spec

@[expose] public section

set_option maxRecDepth 16384

noncomputable section

namespace Cert.KernelIdeal.AmaxValue

open Cert.KernelIdeal Cert.KernelIdeal.Gen
open Idealize.ShloMosaic Idealize.ShloMosaic.TcCoe Idealize.SL.Sem
open Idealize.ShloMosaic.Pipeline (Dat)
open Cert.KernelIdeal.Amax Cert.KernelIdeal.ScaleValue Cert.Scale

variable (W : Dev nD → Valuation τ sig (Elt Ideal))

/-- The arrays the call reads: `dy` as tokens by outputs and `x` as tokens by features. -/
abbrev D (c : Dev nD) : Vec Ideal S4096x25472 .bf16 := W c (Proc.devRef .tc main_v1)
abbrev X (c : Dev nD) : Vec Ideal S4096x1280 .fp8e4m3 := W c (Proc.devRef .tc main_v0)

/-! ## The blocks -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)

/-- Element `(a, b)` of block `t` of `dy` is element `(128 t + a, b)`. -/
theorem emb0 (t : Fin cfg0.N) (y : S128x25472.Idx) (i : S4096x25472.Idx) (h0 : (i 0).val = t.val * 128 + (y 0).val) (h1 : (i 1).val = (y 1).val) :
    ((cfg0.win 0).blk t).view.emb y = i := by
  obtain ⟨e0, e1⟩ := idx0 t
  funext a; apply Fin.ext
  match a with
  | ⟨0, _⟩ =>
    show win0_0.index t (0 : Fin 2) * 128 + 1 * (y 0).val = (i 0).val
    omega
  | ⟨1, _⟩ =>
    show win0_0.index t (1 : Fin 2) * 25472 + 1 * (y 1).val = (i 1).val
    omega
/-- Element `(a, b)` of block `t` of `x` is element `(128 t + a, b)`. -/
theorem emb1 (t : Fin cfg0.N) (y : S128x1280.Idx) (i : S4096x1280.Idx) (h0 : (i 0).val = t.val * 128 + (y 0).val) (h1 : (i 1).val = (y 1).val) :
    ((cfg0.win 1).blk t).view.emb y = i := by
  obtain ⟨e0, e1⟩ := idx1 t
  funext a; apply Fin.ext
  match a with
  | ⟨0, _⟩ =>
    show win0_1.index t (0 : Fin 2) * 128 + 1 * (y 0).val = (i 0).val
    omega
  | ⟨1, _⟩ =>
    show win0_1.index t (1 : Fin 2) * 1280 + 1 * (y 1).val = (i 1).val
    omega

theorem lt_N (t : Fin cfg0.N) : t.val < 32 := lt_of_lt_of_eq t.isLt N_0

/-- The block of `dy` at point `t`, as a vector. -/
abbrev dBlk (c : Dev nD) (t : Fin cfg0.N) : Vec Ideal S128x25472 .bf16 := iblk W c 0 t

theorem iblk0 (c : Dev nD) (t : Fin cfg0.N) (y : S128x25472.Idx) (i : S4096x25472.Idx) (h0 : (i 0).val = t.val * 128 + (y 0).val)
    (h1 : (i 1).val = (y 1).val) : dBlk W c t y = D W c i := congrArg (D W c) (emb0 t y i h0 h1)
theorem iblk1 (c : Dev nD) (t : Fin cfg0.N) (y : S128x1280.Idx) (i : S4096x1280.Idx) (h0 : (i 0).val = t.val * 128 + (y 0).val)
    (h1 : (i 1).val = (y 1).val) : iblk W c 1 t y = X W c i := congrArg (X W c) (emb1 t y i h0 h1)

/-! ## The largest magnitude -/

/-- The bounds of the column maxima after point `n` are those of the magnitudes in the blocks so far. -/
theorem acc_le (c : Dev nD) (b : EReal) : ∀ (n : ℕ) (h : n < cfg0.N),
    (∀ j, (acc W c n h j : EReal) ≤ b) ↔ ∀ t : Fin cfg0.N, t.val ≤ n → ∀ k : S128x25472.Idx, max (dBlk W c t k : EReal) (-(dBlk W c t k : EReal)) ≤ b
  | 0, h => by
    refine (first_le (dBlk W c ⟨0, h⟩) b).trans ⟨fun H t ht k => ?_, fun H k => H ⟨0, h⟩ le_rfl k⟩
    obtain rfl : t = ⟨0, h⟩ := Fin.ext (by dsimp only; omega)
    exact H k
  | n + 1, h => by
    refine (next_le (dBlk W c ⟨n + 1, h⟩) (acc W c n (Nat.lt_of_succ_lt h)) b).trans ⟨fun H t ht k => ?_, fun H => ⟨?_, fun k => H ⟨n + 1, h⟩ le_rfl k⟩⟩
    · rcases Nat.lt_or_ge n t.val with hlt | hle
      · obtain rfl : t = ⟨n + 1, h⟩ := Fin.ext (by dsimp only; omega)
        exact H.2 k
      · exact (acc_le c b n _).1 H.1 t hle k
    · exact (acc_le c b n _).2 fun t ht k => H t (Nat.le_succ_of_le ht) k

/-- After the last point their maximum is the largest magnitude in `dy`. -/
theorem amax_acc (c : Dev nD) (t : Fin cfg0.N) (ht : t.val = 31) : amaxOf (acc W c t.val t.isLt) = Spec.amax (D W c) := by
  refine Spec.eq_amax _ _ fun b => (amaxOf_le _ b).trans ((acc_le W c b t.val t.isLt).trans ⟨fun H i => ?_, fun H u hu k => ?_⟩)
  · have hi : (i 0).val < 4096 := (i 0).isLt
    have hi1 : (i 1).val < 25472 := (i 1).isLt
    have hu : (i 0).val / 128 < cfg0.N := lt_of_lt_of_eq (by omega) N_0.symm
    let y : S128x25472.Idx := ix2 ⟨(i 0).val % 128, Nat.mod_lt _ (by decide)⟩ ⟨(i 1).val, hi1⟩
    have e := iblk0 W c ⟨(i 0).val / 128, hu⟩ y i (by show (i 0).val = (i 0).val / 128 * 128 + (i 0).val % 128; omega) rfl
    have := H ⟨(i 0).val / 128, hu⟩ (by show (i 0).val / 128 ≤ t.val; omega) y
    rw [e] at this
    exact this
  · have hk : (k 0).val < 128 := (k 0).isLt
    have hk1 : (k 1).val < 25472 := (k 1).isLt
    have hu := lt_N u
    have e := iblk0 W c u k (ix2 ⟨u.val * 128 + (k 0).val, by omega⟩ ⟨(k 1).val, hk1⟩) rfl rfl
    rw [e]
    exact H _

/-! ## The arrays -/

theorem flush2 : ∀ t : Fin cfg0.N, (cfg0.win 2).flush t = true → t.val = 31 := by decide +kernel
theorem flush3 : ∀ t : Fin cfg0.N, (cfg0.win 3).flush t = true → t.val = 31 := by decide +kernel
/-- The last point. -/
abbrev last : Fin cfg0.N := ⟨31, lt_of_lt_of_eq (by decide) N_0.symm⟩
theorem flush2_last : (cfg0.win 2).flush last = true := by decide +kernel
theorem flush3_last : (cfg0.win 3).flush last = true := by decide +kernel

theorem emb2 (t : Fin cfg0.N) (y : S1x1.Idx) : ((cfg0.win 2).blk t).view.emb y = y := funext fun a => Fin.ext (by
  match a with
  | ⟨0, _⟩ => show 0 * 1 + 1 * (y 0).val = (y 0).val; omega
  | ⟨1, _⟩ => show 0 * 1 + 1 * (y 1).val = (y 1).val; omega)
theorem emb3 (t : Fin cfg0.N) (y : S1x1.Idx) : ((cfg0.win 3).blk t).view.emb y = y := funext fun a => Fin.ext (by
  match a with
  | ⟨0, _⟩ => show 0 * 1 + 1 * (y 0).val = (y 0).val; omega
  | ⟨1, _⟩ => show 0 * 1 + 1 * (y 1).val = (y 1).val; omega)

theorem mem2 (i : S1x1.Idx) : ∃ t : Fin cfg0.N, (cfg0.win 2).flush t = true ∧ i ∈ ((cfg0.win 2).blk t).view.set := by
  refine ⟨last, flush2_last, ?_⟩
  have := ((cfg0.win 2).blk last).view.emb_mem_set i
  rwa [emb2] at this
theorem mem3 (i : S1x1.Idx) : ∃ t : Fin cfg0.N, (cfg0.win 3).flush t = true ∧ i ∈ ((cfg0.win 3).blk t).view.set := by
  refine ⟨last, flush3_last, ?_⟩
  have := ((cfg0.win 3).blk last).view.emb_mem_set i
  rwa [emb3] at this

theorem scaleOf_last (c : Dev nD) (t : Fin cfg0.N) (ht : t.val = 31) : scaleOf (acc W c t.val t.isLt) = fun _ => Spec.scale (D W c) := by
  funext z
  refine (scale_eq (acc W c t.val t.isLt) z).trans ?_
  rw [amax_acc W c t ht]
  rfl
theorem invOf_last (c : Dev nD) (t : Fin cfg0.N) (ht : t.val = 31) : invOf (acc W c t.val t.isLt) = fun _ => Ideal.div 1 (Spec.scale (D W c)) := by
  funext z
  refine (inv_eq (acc W c t.val t.isLt) z).trans ?_
  rw [amax_acc W c t ht]
  rfl

/-- The scale. -/
theorem final2 (c : Dev nD) : (Amax.dats W c).arrAt 2 cfg0.N = fun _ => Spec.scale (D W c) :=
  (Amax.dats W c).arrAt_eq_of_cover 2 _ (fun t hf => by
    show (cfg0.win 2).cut (grid0.coords t) ((Amax.dats W c).after 2 t) = _
    rw [after0_2, scaleOf_last W c t (flush2 t hf)]
    rfl) mem2
/-- Its inverse. -/
theorem final3 (c : Dev nD) : (Amax.dats W c).arrAt 3 cfg0.N = fun _ => Ideal.div 1 (Spec.scale (D W c)) :=
  (Amax.dats W c).arrAt_eq_of_cover 3 _ (fun t hf => by
    show (cfg0.win 3).cut (grid0.coords t) ((Amax.dats W c).after 3 t) = _
    rw [after0_3, invOf_last W c t (flush3 t hf)]
    rfl) mem3

/-- The transpose of `x`. -/
def xt (c : Dev nD) : Vec Ideal S1280x4096 .fp8e4m3 := fun i => X W c (ix2 (i 1) (i 0))

theorem pay4_apply (v : Vec Ideal S128x1280 .fp8e4m3) (y : S1280x128.Idx) : k0_pay4 v y = v (ix2 (y 1) (y 0)) := by
  show shapeCast S128x1280 v shapeCasts_S128x1280_S128x1280 _ = _
  rw [shapeCast_self]
  refine congrArg v (funext fun a => Fin.ext ?_)
  match a with
  | ⟨0, _⟩ => rfl
  | ⟨1, _⟩ => rfl

theorem flush4 : ∀ t : Fin cfg0.N, (cfg0.win 4).flush t = true := by decide +kernel

theorem mem4 (i : S1280x4096.Idx) : ∃ t : Fin cfg0.N, (cfg0.win 4).flush t = true ∧ i ∈ ((cfg0.win 4).blk t).view.set := by
  have hi0 : (i 0).val < 1280 := (i 0).isLt
  have hi1 : (i 1).val < 4096 := (i 1).isLt
  refine ⟨⟨(i 1).val / 128, lt_of_lt_of_eq (by omega) N_0.symm⟩, flush4 _, ?_⟩
  generalize ht : (⟨(i 1).val / 128, lt_of_lt_of_eq (by omega) N_0.symm⟩ : Fin cfg0.N) = t
  have htv : t.val = (i 1).val / 128 := by rw [← ht]
  obtain ⟨e0, e1⟩ := idx4 t
  show i ∈ ((View.whole main_v2_2).slice (win0_4.rect t)).set
  rw [View.set_slice_whole, Rect.mem_set_unit]
  intro a
  match a with
  | ⟨0, _⟩ => show win0_4.index t (0 : Fin 2) * 1280 ≤ (i 0).val ∧ (i 0).val < win0_4.index t (0 : Fin 2) * 1280 + 1280; rw [e0]; omega
  | ⟨1, _⟩ => show win0_4.index t (1 : Fin 2) * 128 ≤ (i 1).val ∧ (i 1).val < win0_4.index t (1 : Fin 2) * 128 + 128; rw [e1]; omega

theorem final4 (c : Dev nD) : (Amax.dats W c).arrAt 4 cfg0.N = xt W c :=
  (Amax.dats W c).arrAt_eq_of_cover 4 _ (fun t hf => by
    show (cfg0.win 4).cut (grid0.coords t) ((Amax.dats W c).after 4 t) = _
    rw [after0_4]
    obtain ⟨e0, e1⟩ := idx4 t
    funext y
    have hb0 : (((cfg0.win 4).blk t).view.emb y 0).val = win0_4.index t (0 : Fin 2) * 1280 + 1 * (y 0).val := rfl
    have hb1 : (((cfg0.win 4).blk t).view.emb y 1).val = win0_4.index t (1 : Fin 2) * 128 + 1 * (y 1).val := rfl
    show k0_pay4 (iblk W c 1 t) ((cfg0.win 4).xinj (grid0.coords t) y) = X W c (ix2 (((cfg0.win 4).blk t).view.emb y 1) (((cfg0.win 4).blk t).view.emb y 0))
    refine (pay4_apply (iblk W c 1 t) _).trans ?_
    refine iblk1 W c t _ _ ?_ ?_
    · show (((cfg0.win 4).blk t).view.emb y 1).val = t.val * 128 + (y 1).val
      omega
    · show (((cfg0.win 4).blk t).view.emb y 0).val = (y 0).val
      omega) mem4

end Cert.KernelIdeal.AmaxValue

end
-- ==== Proof.WgradValue.lean ====
/- What the second call leaves in its two arrays, over the extended reals: the codes of `dy`, and the accumulator plus the scaled
   product. What lies beyond the arrays' edge in the last block has no part in what is written back. -/
module

public import proofs.«01_k».proof.Proof.WgradBody
public import proofs.«01_k».proof.Proof.Spec
public import Idealize.ShloMosaic.Lib.Pipeline.ArrRel
public import Idealize.ShloMosaic.Lib.MatmulPlain

@[expose] public section

set_option maxRecDepth 16384

noncomputable section

namespace Cert.KernelIdeal.WgradValue

open Cert.KernelIdeal Cert.KernelIdeal.Gen
open Idealize.ShloMosaic Idealize.ShloMosaic.TcCoe Idealize.SL.Sem
open Idealize.ShloMosaic.Pipeline (Dat RDat)
open Cert.KernelIdeal.Wgrad

/-! ## One block -/

/-- The codes of a block: each element times the inverse scale, clipped. -/
theorem pay1_apply (v : Vec Ideal S4096x512 .bf16) (s : Elt Ideal .f32) (p : S4096x512.Idx) :
    k1_pay1 (F := Ideal) v s p = Spec.clip s (v p) := by
  show min (Ideal.ofBits .f32 0x47600000#32) (max (Ideal.ofBits .f32 0xC7600000#32)
    ((shapeCast S4096x512 v shapeCasts_S4096x512_S4096x512 p : EReal) * s)) = _
  rw [shapeCast_self]
  rfl

/-- The product over the tokens. -/
theorem dot_apply (x : FVec Ideal S1280x4096 .fp8e4m3) (q : FVec Ideal S4096x512 .fp8e5m2) (acc : FVec Ideal S1280x512 .f32) (p : S1280x512.Idx) :
    FloatOps.matmul dot_S1280x4096_S4096x512_S1280x512_1_0_0_1_n_n none x q acc p
      = (acc p + ∑ k : Fin 4096, x (ix2 (p 0) k) * q (ix2 k (p 1)) : EReal) := by
  have hp : p = ix2 (p 0) (p 1) := funext fun a => by
    match a with
    | ⟨0, _⟩ => rfl
    | ⟨1, _⟩ => rfl
  have h := Ideal.matmul_plain_apply (φ₁ := .fp8e4m3) (φ₂ := .fp8e5m2) (M := 1280) (K := 4096) (N := 512) none x q acc (p 0) (p 1)
  rw [hp]
  exact h

theorem pay2_apply (v : Vec Ideal S4096x512 .bf16) (s : Elt Ideal .f32) (x : Vec Ideal S1280x4096 .fp8e4m3) (a : Vec Ideal S1280x512 .f32)
    (r : Elt Ideal .f32) (p : S1280x512.Idx) :
    k1_pay2 (F := Ideal) v s x a r p
      = ((a p : EReal) + (∑ k : Fin 4096, (x (ix2 (p 0) k) : EReal) * Spec.clip s (v (ix2 k (p 1)))) * (r : EReal)) := by
  have h : k1_pay2 (F := Ideal) v s x a r p = ((a p : EReal) + FloatOps.matmul dot_S1280x4096_S4096x512_S1280x512_1_0_0_1_n_n none
      (shapeCast S1280x4096 x shapeCasts_S1280x4096_S1280x4096) (k1_pay1 (F := Ideal) v s) (fun _ => Ideal.ofBits .f32 0x00000000#32) p * (r : EReal)) := rfl
  rw [h, dot_apply, Ideal.ofBits_zero_f32, zero_add, shapeCast_self]
  exact congrArg (fun z : EReal => (a p : EReal) + z * (r : EReal)) (Finset.sum_congr rfl fun k _ => by rw [pay1_apply])

/-! ## The blocks -/

variable (W : Dev nD → Valuation τ sig (Elt Ideal))

/-- The arrays the call reads. -/
abbrev S (c : Dev nD) : Vec Ideal S1x1 .f32 := W c (Proc.devRef .tc main_v5)
abbrev Inv (c : Dev nD) : Vec Ideal S1x1 .f32 := W c (Proc.devRef .tc main_v2_1)
abbrev XT (c : Dev nD) : Vec Ideal S1280x4096 .fp8e4m3 := W c (Proc.devRef .tc main_v2_2)
abbrev D (c : Dev nD) : Vec Ideal S4096x25472 .bf16 := W c (Proc.devRef .tc main_v1)
abbrev A (c : Dev nD) : Vec Ideal S1280x25472 .f32 := W c (Proc.devRef .tc main_arg3)

theorem emb0 (t : Fin cfg1.N) (y : S1x1.Idx) : ((cfg1.win 0).blk t).view.emb y = y := funext fun a => Fin.ext (by
  match a with
  | ⟨0, _⟩ => show 0 * 1 + 1 * (y 0).val = (y 0).val; omega
  | ⟨1, _⟩ => show 0 * 1 + 1 * (y 1).val = (y 1).val; omega)
theorem emb1 (t : Fin cfg1.N) (y : S1x1.Idx) : ((cfg1.win 1).blk t).view.emb y = y := funext fun a => Fin.ext (by
  match a with
  | ⟨0, _⟩ => show 0 * 1 + 1 * (y 0).val = (y 0).val; omega
  | ⟨1, _⟩ => show 0 * 1 + 1 * (y 1).val = (y 1).val; omega)
theorem emb2 (t : Fin cfg1.N) (y : S1280x4096.Idx) : ((cfg1.win 2).blk t).view.emb y = y := funext fun a => Fin.ext (by
  match a with
  | ⟨0, _⟩ => show 0 * 1280 + 1 * (y 0).val = (y 0).val; omega
  | ⟨1, _⟩ => show 0 * 4096 + 1 * (y 1).val = (y 1).val; omega)

theorem sBlk_eq (c : Dev nD) (t : Fin cfg1.N) (z : S1x1.Idx) : sBlk W c t z = S W c z := congrArg (S W c) (emb0 t z)
theorem invBlk_eq (c : Dev nD) (t : Fin cfg1.N) (z : S1x1.Idx) : invBlk W c t z = Inv W c z := congrArg (Inv W c) (emb1 t z)
theorem xtBlk_eq (c : Dev nD) (t : Fin cfg1.N) (y : S1280x4096.Idx) : xtBlk W c t y = XT W c y := congrArg (XT W c) (emb2 t y)

/-- Where the blocks of columns lie, and how much of each is inside the array. -/
theorem idx3 : ∀ t : Fin cfg1.N, win1_3.index t (0 : Fin 2) = 0 ∧ win1_3.index t (1 : Fin 2) = t.val
    ∧ win1_3.xsize (grid1.coords t) (0 : Fin 2) = 4096 ∧ win1_3.xsize (grid1.coords t) (1 : Fin 2) = min 512 (25472 - 512 * t.val) :=
  (by decide +kernel : ∀ t : Fin grid1.N, _)
theorem idx4 : ∀ t : Fin cfg1.N, win1_4.index t (0 : Fin 2) = 0 ∧ win1_4.index t (1 : Fin 2) = t.val
    ∧ win1_4.xsize (grid1.coords t) (0 : Fin 2) = 1280 ∧ win1_4.xsize (grid1.coords t) (1 : Fin 2) = min 512 (25472 - 512 * t.val) :=
  (by decide +kernel : ∀ t : Fin grid1.N, _)
theorem idx5 : ∀ t : Fin cfg1.N, win1_5.index t (0 : Fin 2) = 0 ∧ win1_5.index t (1 : Fin 2) = t.val
    ∧ win1_5.xsize (grid1.coords t) (0 : Fin 2) = 1280 ∧ win1_5.xsize (grid1.coords t) (1 : Fin 2) = min 512 (25472 - 512 * t.val) :=
  (by decide +kernel : ∀ t : Fin grid1.N, _)
theorem idx6 : ∀ t : Fin cfg1.N, win1_6.index t (0 : Fin 2) = 0 ∧ win1_6.index t (1 : Fin 2) = t.val
    ∧ win1_6.xsize (grid1.coords t) (0 : Fin 2) = 4096 ∧ win1_6.xsize (grid1.coords t) (1 : Fin 2) = min 512 (25472 - 512 * t.val) :=
  (by decide +kernel : ∀ t : Fin grid1.N, _)

/-- Inside the array the block of `dy` is the array's columns from `512 t` on, whatever it was filled up with. -/
theorem dyBlk_apply (c : Dev nD) (t : Fin cfg1.N) (d : Vec Ideal S4096x512 .bf16) (p : S4096x512.Idx) (i : S4096x25472.Idx)
    (h0 : (i 0).val = (p 0).val) (h1 : (i 1).val = t.val * 512 + (p 1).val) : dyBlk W c t d p = D W c i := by
  obtain ⟨e0, e1, x0, x1⟩ := idx3 t
  have hi : (i 1).val < 25472 := (i 1).isLt
  have hp0 : (p 0).val < 4096 := (p 0).isLt
  have hp1 : (p 1).val < 512 := (p 1).isLt
  have hm : (cfg1.win 3).moved (cfg1.grid.coords t) p = true := ((cfg1.win 3).moved_iff _ p).mpr fun a => by
    match a with
    | ⟨0, _⟩ => show (p 0).val < win1_3.xsize (grid1.coords t) (0 : Fin 2); rw [x0]; exact hp0
    | ⟨1, _⟩ => show (p 1).val < win1_3.xsize (grid1.coords t) (1 : Fin 2); rw [x1]; omega
  unfold dyBlk Pipeline.Window.fill
  rw [dif_pos hm]
  refine congrArg (D W c) (funext fun a => Fin.ext ?_)
  match a with
  | ⟨0, _⟩ => show win1_3.index t (0 : Fin 2) * 4096 + 1 * (p 0).val = (i 0).val; omega
  | ⟨1, _⟩ => show win1_3.index t (1 : Fin 2) * 512 + 1 * (p 1).val = (i 1).val; omega
theorem accBlk_apply (c : Dev nD) (t : Fin cfg1.N) (d : Vec Ideal S1280x512 .f32) (p : S1280x512.Idx) (i : S1280x25472.Idx)
    (h0 : (i 0).val = (p 0).val) (h1 : (i 1).val = t.val * 512 + (p 1).val) : accBlk W c t d p = A W c i := by
  obtain ⟨e0, e1, x0, x1⟩ := idx4 t
  have hi : (i 1).val < 25472 := (i 1).isLt
  have hp0 : (p 0).val < 1280 := (p 0).isLt
  have hp1 : (p 1).val < 512 := (p 1).isLt
  have hm : (cfg1.win 4).moved (cfg1.grid.coords t) p = true := ((cfg1.win 4).moved_iff _ p).mpr fun a => by
    match a with
    | ⟨0, _⟩ => show (p 0).val < win1_4.xsize (grid1.coords t) (0 : Fin 2); rw [x0]; exact hp0
    | ⟨1, _⟩ => show (p 1).val < win1_4.xsize (grid1.coords t) (1 : Fin 2); rw [x1]; omega
  unfold accBlk Pipeline.Window.fill
  rw [dif_pos hm]
  refine congrArg (A W c) (funext fun a => Fin.ext ?_)
  match a with
  | ⟨0, _⟩ => show win1_4.index t (0 : Fin 2) * 1280 + 1 * (p 0).val = (i 0).val; omega
  | ⟨1, _⟩ => show win1_4.index t (1 : Fin 2) * 512 + 1 * (p 1).val = (i 1).val; omega

/-! ## The arrays -/

/-- The codes of `dy`, -/
def codesArr (c : Dev nD) : Vec Ideal S4096x25472 .fp8e5m2 := fun i => Spec.clip (Inv W c i00) (D W c i)
/-- and the accumulator plus the scaled product. -/
def dwArr (c : Dev nD) : Vec Ideal S1280x25472 .f32 := fun i =>
  ((A W c i : EReal) + (∑ k : Fin 4096, (XT W c (ix2 (i 0) k) : EReal) * codesArr W c (ix2 k (i 1))) * (S W c i00 : EReal))

theorem mem5 (i : S1280x25472.Idx) : ∃ t : Fin cfg1.N, (cfg1.win 5).flush t = true ∧ i ∈ ((cfg1.win 5).blk t).view.set := by
  have hi0 : (i 0).val < 1280 := (i 0).isLt
  have hi1 : (i 1).val < 25472 := (i 1).isLt
  refine ⟨⟨(i 1).val / 512, lt_of_lt_of_eq (by omega) N_1.symm⟩, flush1_5 _, ?_⟩
  generalize ht : (⟨(i 1).val / 512, lt_of_lt_of_eq (by omega) N_1.symm⟩ : Fin cfg1.N) = t
  have htv : t.val = (i 1).val / 512 := by rw [← ht]
  obtain ⟨e0, e1, x0, x1⟩ := idx5 t
  show i ∈ ((View.whole main_v6_0).slice (win1_5.rect t)).set
  rw [View.set_slice_whole, Rect.mem_set_unit]
  intro a
  match a with
  | ⟨0, _⟩ =>
    show win1_5.index t (0 : Fin 2) * 1280 ≤ (i 0).val ∧ (i 0).val < win1_5.index t (0 : Fin 2) * 1280 + win1_5.xsize (grid1.coords t) (0 : Fin 2)
    rw [e0, x0]; omega
  | ⟨1, _⟩ =>
    show win1_5.index t (1 : Fin 2) * 512 ≤ (i 1).val ∧ (i 1).val < win1_5.index t (1 : Fin 2) * 512 + win1_5.xsize (grid1.coords t) (1 : Fin 2)
    rw [e1, x1]; omega
theorem mem6 (i : S4096x25472.Idx) : ∃ t : Fin cfg1.N, (cfg1.win 6).flush t = true ∧ i ∈ ((cfg1.win 6).blk t).view.set := by
  have hi0 : (i 0).val < 4096 := (i 0).isLt
  have hi1 : (i 1).val < 25472 := (i 1).isLt
  refine ⟨⟨(i 1).val / 512, lt_of_lt_of_eq (by omega) N_1.symm⟩, flush1_6 _, ?_⟩
  generalize ht : (⟨(i 1).val / 512, lt_of_lt_of_eq (by omega) N_1.symm⟩ : Fin cfg1.N) = t
  have htv : t.val = (i 1).val / 512 := by rw [← ht]
  obtain ⟨e0, e1, x0, x1⟩ := idx6 t
  show i ∈ ((View.whole main_v6_1).slice (win1_6.rect t)).set
  rw [View.set_slice_whole, Rect.mem_set_unit]
  intro a
  match a with
  | ⟨0, _⟩ =>
    show win1_6.index t (0 : Fin 2) * 4096 ≤ (i 0).val ∧ (i 0).val < win1_6.index t (0 : Fin 2) * 4096 + win1_6.xsize (grid1.coords t) (0 : Fin 2)
    rw [e0, x0]; omega
  | ⟨1, _⟩ =>
    show win1_6.index t (1 : Fin 2) * 512 ≤ (i 1).val ∧ (i 1).val < win1_6.index t (1 : Fin 2) * 512 + win1_6.xsize (grid1.coords t) (1 : Fin 2)
    rw [e1, x1]; omega

/-- What is written back of a block that the body may leave is that block of the codes; -/
theorem codes_blk (c : Dev nD) (t : Fin cfg1.N) (X : Vec Ideal S4096x512 .fp8e5m2) (hX : RlCodes W c t X) :
    (cfg1.win 6).cut (grid1.coords t) X = ((cfg1.win 6).blk t).view.read (Elt Ideal) (codesArr W c) := by
  obtain ⟨d3, rfl⟩ := hX
  obtain ⟨e0, e1, x0, x1⟩ := idx6 t
  funext y
  have hb0 : (((cfg1.win 6).blk t).view.emb y 0).val = win1_6.index t (0 : Fin 2) * 4096 + 1 * (y 0).val := rfl
  have hb1 : (((cfg1.win 6).blk t).view.emb y 1).val = win1_6.index t (1 : Fin 2) * 512 + 1 * (y 1).val := rfl
  show k1_pay1 (dyBlk W c t d3) (invBlk W c t i00) ((cfg1.win 6).xinj (grid1.coords t) y) = codesArr W c (((cfg1.win 6).blk t).view.emb y)
  refine (pay1_apply _ _ _).trans ?_
  unfold codesArr
  rw [invBlk_eq]
  refine congrArg (Spec.clip (Inv W c i00)) (dyBlk_apply W c t d3 _ _ ?_ ?_)
  · show (((cfg1.win 6).blk t).view.emb y 0).val = (y 0).val
    omega
  · show (((cfg1.win 6).blk t).view.emb y 1).val = t.val * 512 + (y 1).val
    omega
/-- and likewise of the new accumulator. -/
theorem dw_blk (c : Dev nD) (t : Fin cfg1.N) (X : Vec Ideal S1280x512 .f32) (hX : RlDw W c t X) :
    (cfg1.win 5).cut (grid1.coords t) X = ((cfg1.win 5).blk t).view.read (Elt Ideal) (dwArr W c) := by
  obtain ⟨d3, d4, rfl⟩ := hX
  obtain ⟨e0, e1, x0, x1⟩ := idx5 t
  funext y
  have hb0 : (((cfg1.win 5).blk t).view.emb y 0).val = win1_5.index t (0 : Fin 2) * 1280 + 1 * (y 0).val := rfl
  have hb1 : (((cfg1.win 5).blk t).view.emb y 1).val = win1_5.index t (1 : Fin 2) * 512 + 1 * (y 1).val := rfl
  show k1_pay2 (dyBlk W c t d3) (invBlk W c t i00) (xtBlk W c t) (accBlk W c t d4) (sBlk W c t i00) ((cfg1.win 5).xinj (grid1.coords t) y)
    = dwArr W c (((cfg1.win 5).blk t).view.emb y)
  refine (pay2_apply _ _ _ _ _ _).trans ?_
  unfold dwArr
  have ha : accBlk W c t d4 ((cfg1.win 5).xinj (grid1.coords t) y) = A W c (((cfg1.win 5).blk t).view.emb y) :=
    accBlk_apply W c t d4 _ _ (by show (((cfg1.win 5).blk t).view.emb y 0).val = (y 0).val; omega)
      (by show (((cfg1.win 5).blk t).view.emb y 1).val = t.val * 512 + (y 1).val; omega)
  rw [ha, sBlk_eq, invBlk_eq]
  refine congrArg (fun z : EReal => (A W c (((cfg1.win 5).blk t).view.emb y) : EReal) + z * (S W c i00 : EReal)) (Finset.sum_congr rfl fun k _ => ?_)
  have hx : xtBlk W c t (ix2 ((cfg1.win 5).xinj (grid1.coords t) y 0) k) = XT W c (ix2 (((cfg1.win 5).blk t).view.emb y 0) k) := by
    rw [xtBlk_eq]
    refine congrArg (XT W c) (funext fun a => Fin.ext ?_)
    match a with
    | ⟨0, _⟩ => show (y 0).val = (((cfg1.win 5).blk t).view.emb y 0).val; omega
    | ⟨1, _⟩ => rfl
  have hd : dyBlk W c t d3 (ix2 k ((cfg1.win 5).xinj (grid1.coords t) y 1)) = D W c (ix2 k (((cfg1.win 5).blk t).view.emb y 1)) :=
    dyBlk_apply W c t d3 _ _ rfl (by show (((cfg1.win 5).blk t).view.emb y 1).val = t.val * 512 + (y 1).val; omega)
  rw [hx, hd]
  rfl

/-- Every array that the relational data allow is the codes; -/
theorem final6 (c : Dev nD) (G : Buf (Elt Ideal) ((c : Thread nD τ).loc main_v6_1)) (hG : (Wgrad.rdats W c).ArrAt 6 cfg1.N G) : G = codesArr W c := by
  obtain ⟨X, hX, hA⟩ := RDat.ArrAt.exists_exact hG
  have hG' := hA (fun w => if h : w = 6 then h ▸ X else (Wgrad.dats W c).after w) fun u _ _ => rfl
  rw [hG']
  refine Dat.arrAt_eq_of_cover _ 6 _ (fun t hf => ?_) mem6
  exact codes_blk W c t (X t) ((Wgrad.dats W c).toRRel_leaves rfl (hX t t.isLt hf))
/-- and the new accumulator. -/
theorem final5 (c : Dev nD) (G : Buf (Elt Ideal) ((c : Thread nD τ).loc main_v6_0)) (hG : (Wgrad.rdats W c).ArrAt 5 cfg1.N G) : G = dwArr W c := by
  obtain ⟨X, hX, hA⟩ := RDat.ArrAt.exists_exact hG
  have hG' := hA (fun w => if h : w = 5 then h ▸ X else (Wgrad.dats W c).after w) fun u _ _ => rfl
  rw [hG']
  refine Dat.arrAt_eq_of_cover _ 5 _ (fun t hf => ?_) mem5
  exact dw_blk W c t (X t) ((Wgrad.dats W c).toRRel_leaves rfl (hX t t.isLt hf))

end Cert.KernelIdeal.WgradValue

end
-- ==== Proof.KernelValue.lean ====
/- The kernel's run over the extended reals: its three results as functions of the arguments. -/
module

public import proofs.«01_k».proof.Proof.Run
public import proofs.«01_k».proof.Proof.AmaxValue
public import proofs.«01_k».proof.Proof.WgradValue

@[expose] public section

set_option maxRecDepth 16384

noncomputable section

namespace Cert.KernelIdeal.Results

open Cert.KernelIdeal Cert.KernelIdeal.Gen
open Idealize.ShloMosaic Idealize.ShloMosaic.TcCoe Idealize.ShloMosaic.Tactic Idealize.SL.Sem
open Cert.KernelIdeal.Run Cert.KernelIdeal.Wgrad

variable (m : (ℓ : Loc nD τ sig) → Buf (Elt Ideal) ℓ) (ρ : Dev nD → PrngReg)

/-- The arguments: `x` and `dy` with the two token axes as one, the accumulator, the scale of `x`. -/
def X (c : Dev nD) : Vec Ideal S4096x1280 .fp8e4m3 := shapeCast S4096x1280 (m ((c : Thread nD τ).loc main_arg0)) shapeCasts_S2x2048x1280_S4096x1280
def D (c : Dev nD) : Vec Ideal S4096x25472 .bf16 := shapeCast S4096x25472 (m ((c : Thread nD τ).loc main_arg2)) shapeCasts_S2x2048x25472_S4096x25472
def A (c : Dev nD) : Vec Ideal S1280x25472 .f32 := m ((c : Thread nD τ).loc main_arg3)
def xScale (c : Dev nD) : Vec Ideal S1x1 .f32 := shapeCast S1x1 (m ((c : Thread nD τ).loc main_arg1)) shapeCasts_S_S1x1

/-! ## What the first call finds and leaves -/

theorem V1_x (c : Dev nD) : V1 m c main_v0 = X m c := by
  show StableHlo.after hostOps0 (fun b => m (c, b)) (Proc.devRef .tc main_v0) = _
  after_results
  rfl
theorem V1_dy (c : Dev nD) : V1 m c main_v1 = D m c := by
  show StableHlo.after hostOps0 (fun b => m (c, b)) (Proc.devRef .tc main_v1) = _
  after_results
  rfl

theorem scaleArr_eq (c : Dev nD) : scaleArr m c = fun _ => Spec.scale (D m c) :=
  (AmaxValue.final2 (V1 m) c).trans (congrArg (fun d : Vec Ideal S4096x25472 .bf16 => fun _ => Spec.scale d) (V1_dy m c))
theorem invArr_eq (c : Dev nD) : invArr m c = fun _ => Ideal.div 1 (Spec.scale (D m c)) :=
  (AmaxValue.final3 (V1 m) c).trans (congrArg (fun d : Vec Ideal S4096x25472 .bf16 => fun _ => Ideal.div 1 (Spec.scale d)) (V1_dy m c))
theorem xtArr_eq (c : Dev nD) : xtArr m c = fun i => X m c (ix2 (i 1) (i 0)) :=
  (AmaxValue.final4 (V1 m) c).trans (congrArg (fun x : Vec Ideal S4096x1280 .fp8e4m3 => fun i : S1280x4096.Idx => x (ix2 (i 1) (i 0))) (V1_x m c))

/-! ## What the second call finds -/

theorem V3_dy (c : Dev nD) : WgradValue.D (V3 m) c = D m c :=
  (V3_of m c main_v1 (by decide)).trans ((V2_of m c main_v1 (by decide)).trans (V1_dy m c))
theorem V3_acc (c : Dev nD) : WgradValue.A (V3 m) c = A m c :=
  (V3_of m c main_arg3 (by decide)).trans ((V2_of m c main_arg3 (by decide)).trans ((V1_of m c main_arg3 (by decide)).trans rfl))
theorem V3_inv (c : Dev nD) : WgradValue.Inv (V3 m) c = fun _ => Ideal.div 1 (Spec.scale (D m c)) :=
  (V3_of m c main_v2_1 (by decide)).trans ((V2_inv m c).trans (invArr_eq m c))
theorem V3_xt (c : Dev nD) : WgradValue.XT (V3 m) c = fun i => X m c (ix2 (i 1) (i 0)) :=
  (V3_of m c main_v2_2 (by decide)).trans ((V2_xt m c).trans (xtArr_eq m c))

theorem V2_xScale (c : Dev nD) : V2 m c main_arg1 = m ((c : Thread nD τ).loc main_arg1) :=
  (V2_of m c main_arg1 (by decide)).trans ((V1_of m c main_arg1 (by decide)).trans rfl)

/-- The product of the two scales, reshaped. -/
theorem host_scale (a : Vec Ideal S_ .f32) (s : EReal) (z : S1x1.Idx) :
    shapeCast S1x1 (mulf a (shapeCast S_ (fun _ => s : Vec Ideal S1x1 .f32) shapeCasts_S1x1_S_) : FVec Ideal S_ .f32) shapeCasts_S_S1x1 z
      = (shapeCast S1x1 a shapeCasts_S_S1x1 z : EReal) * s := rfl

theorem V3_scale (c : Dev nD) (z : S1x1.Idx) : WgradValue.S (V3 m) c z = (xScale m c z : EReal) * Spec.scale (D m c) := by
  have h : WgradValue.S (V3 m) c = shapeCast S1x1 (mulf (V2 m c main_arg1 : Vec Ideal S_ .f32) (shapeCast S_ (V2 m c main_v2_0 : Vec Ideal S1x1 .f32) shapeCasts_S1x1_S_) : FVec Ideal S_ .f32) shapeCasts_S_S1x1 := by
    show StableHlo.after hostOps1 (V2 m c) (Proc.devRef .tc main_v5) = _
    after_results
    rfl
  rw [h, V2_xScale, V2_scale, scaleArr_eq]
  exact host_scale _ _ z

/-! ## The results -/

theorem codes_eq (c : Dev nD) : WgradValue.codesArr (V3 m) c = Spec.codes (D m c) := by
  funext i
  unfold WgradValue.codesArr Spec.codes
  rw [V3_inv, V3_dy]

theorem dw_eq (c : Dev nD) : WgradValue.dwArr (V3 m) c = Spec.dw (X m c) (D m c) (A m c) (xScale m c i00) := by
  funext i
  unfold WgradValue.dwArr Spec.dw
  rw [codes_eq, V3_scale, V3_acc, V3_xt]
  rfl

/-- The kernel's run. -/
theorem run : θ_run defs (onTc (τ := τ) (main (F := Ideal))) ⟨m, fun _ => 0, ρ⟩ fun r => ∀ c : Dev nD,
      r.2.mem ((c.tc : Thread nD τ).loc main_v6_0) = Spec.dw (X m c) (D m c) (A m c) (xScale m c i00)
      ∧ r.2.mem ((c.tc : Thread nD τ).loc main_v6_1) = Spec.codes (D m c)
      ∧ r.2.mem ((c.tc : Thread nD τ).loc main_v2_0) = (fun _ => Spec.scale (D m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨hargs, ⟨h5, h6⟩, hs⟩ := h.1 c
    exact ⟨(WgradValue.final5 (V3 m) c _ h5).trans (dw_eq m c), (WgradValue.final6 (V3 m) c _ h6).trans (codes_eq m c),
      hs.trans (scaleArr_eq m c), hargs⟩) (Run.run m ρ)

end Cert.KernelIdeal.Results

end
-- ==== Proof.ScaleReference.lean ====
/- The reference's scale: the least power of two above the maximum of `|dy|` times `1/57344`. -/
module

public import proofs.«01_k».proof.Proof.Gen.ReferenceIdeal.Skeleton
public import proofs.«01_k».proof.Proof.Scale
public import proofs.«01_k».proof.Proof.MaxAll
public import Idealize.ShloMosaic.Lib.Pointwise

@[expose] public section

set_option maxRecDepth 16384

noncomputable section

namespace Cert.ReferenceIdeal.ScaleValue

open Cert.ReferenceIdeal Cert.ReferenceIdeal.Gen
open Idealize.ShloMosaic
open Cert.Scale Cert.MaxAll

theorem bits_min : Ideal.ofBits .f32 0x00800000#32 = pw (-126) := by
  have := ofBits_field 1 (by omega) (by omega)
  rw [show (BitVec.ofNat 32 1 <<< 23) = 0x00800000#32 by decide] at this
  rw [this]; norm_num
theorem bits_cap : Ideal.ofBits .f32 0x7E800000#32 = pw 126 := by
  have := ofBits_field 253 (by omega) (by omega)
  rw [show (BitVec.ofNat 32 253 <<< 23) = 0x7E800000#32 by decide] at this
  rw [this]; norm_num
theorem bits_one : Ideal.ofBits .f32 0x3F800000#32 = 1 := by
  have := ofBits_field 127 (by omega) (by omega)
  rw [show (BitVec.ofNat 32 127 <<< 23) = 0x3F800000#32 by decide] at this
  rw [this, ← pw_zero]; norm_num

/-- `2.0 ** (k - 126)`. -/
theorem toInt_field : ∀ k : Fin 256, (IntOp.subi (BitVec.ofNat 32 k.val) 126#32).toInt = (k.val : ℤ) - 126 := by decide +kernel

theorem exp2_field (k : Fin 256) : Ideal.exp2 ((((IntOp.subi (BitVec.ofNat 32 k.val) 126#32).toInt : ℝ) : EReal)) = pw ((k.val : ℤ) - 126) := by
  rw [toInt_field]
  unfold pw
  show ((Real.rpow 2 _ : ℝ) : EReal) = _
  refine congrArg (fun x : ℝ => (x : EReal)) ?_
  exact Real.rpow_intCast 2 _

theorem idx1 (x y : S1.Idx) : x = y := funext fun a => Fin.ext (by
  have e : ∀ a, S1.size a = 1 := by decide
  have := (x a).isLt; have := (y a).isLt; have := e a; omega)

/-- The maximum of `|dy|`. -/
def amaxOf (v : Vec Ideal S4096x25472 .bf16) : EReal :=
  extractAt ![0, 0, 0] (shapeCast S1x1x1 (multiReduction (F := Ideal) .maximumf [1, 2] S1
    (shapeCast S1x4096x25472 (absf (k0_pay2 (F := Ideal) v)) shapeCasts_S4096x25472_S1x4096x25472) 0xFF800000#32 reduces_S1x4096x25472_S1 (.inl rfl) rfl) shapeCasts_S1_S1x1x1)
    inpos_S1x1x1_p0_0_0

theorem amaxOf_le (v : Vec Ideal S4096x25472 .bf16) (b : EReal) : amaxOf v ≤ b ↔ ∀ k, max (v k : EReal) (-(v k : EReal)) ≤ b := by
  have h := maximum_le (φ := .f32) (shapeCast S1x4096x25472 (absf (k0_pay2 (F := Ideal) v)) shapeCasts_S4096x25472_S1x4096x25472) 0xFF800000#32 reduces_S1x4096x25472_S1 (.inl rfl) rfl neg_inf_f32 b
  have h2 := shapeCast_all (absf (k0_pay2 (F := Ideal) v)) shapeCasts_S4096x25472_S1x4096x25472 (fun x : EReal => x ≤ b)
  have h3 := shapeCast_all v shapeCasts_S4096x25472_S4096x25472 (fun x : EReal => max x (-x) ≤ b)
  refine Iff.trans ?_ (h.trans (h2.trans (Iff.trans Iff.rfl h3)))
  unfold amaxOf extractAt shapeCast
  refine ⟨fun H j => ?_, fun H => H _⟩
  refine le_of_eq_of_le (congrArg _ ?_) H
  exact idx1 _ _

/-- The least of the candidates. -/
def leastVec (a : EReal) : FVec Ideal S1 .f32 :=
  multiReduction (F := Ideal) .minimumf [1] S1 (select (cmpf (F := Ideal) (φ := .f32) .olt
      (broadcastTo S1x256 (mulf (broadcast S1x1 (a : Ideal .f32)) (broadcast S1x1 (Scalar.ofBits .f32 0x37924925#32))) broadcasts_S1x1_S1x256)
      (exp2 (sitofp .f32 (subi (iota .tc S1x256 32 [1] iota_S1x256_d1_w32) (broadcast S1x256 126#32)))))
    (exp2 (sitofp .f32 (subi (iota .tc S1x256 32 [1] iota_S1x256_d1_w32) (broadcast S1x256 126#32))))
    (broadcast S1x256 (Scalar.ofBits .f32 0x7E800000#32))) 0x7F800000#32 reduces_S1x256_S1 (.inl rfl) rfl

theorem select_lt (r x y : EReal) : Scalar.select (Ideal.cmp .olt r x) x y = if r < x then x else y := by
  unfold Ideal.cmp Scalar.select
  dsimp only
  by_cases h : r < x
  · rw [decide_eq_true h, if_pos (by decide), if_pos h]
  · rw [decide_eq_false h, if_neg (by decide), if_neg h]

theorem leastVec_eq (a : EReal) (j : S1.Idx) :
    leastVec a j = (Finset.univ : Finset (Fin 256)).fold min ⊤ (cand (a * c57344)) := by
  refine (multiReduction_minimumf_eq_fold (F := Ideal) _ _ _ _ _ j).trans ?_
  refine (Shape.Reduces.fold_fiber_r2_a1 _ j _ _ _).trans ?_
  rw [show FloatOps.ofBits (F := Ideal) .f32 0x7F800000#32 = (⊤ : EReal) from pos_inf_f32]
  refine Finset.fold_congr fun k _ => ?_
  unfold cand
  rw [← select_lt, ← bits_cap, ← exp2_field]
  show Scalar.select (Ideal.cmp .olt (a * c57344) (Ideal.exp2 ((((IntOp.subi (iota .tc S1x256 32 [1] iota_S1x256_d1_w32 _) 126#32).toInt : ℝ) : EReal))))
    (Ideal.exp2 ((((IntOp.subi (iota .tc S1x256 32 [1] iota_S1x256_d1_w32 _) 126#32).toInt : ℝ) : EReal))) (Ideal.ofBits .f32 0x7E800000#32) = _
  rw [iota_single_apply]
  rfl

/-- The scale from the maximum and the least candidate. -/
def scaleVec (a : EReal) (m : FVec Ideal S1x1 .f32) : FVec Ideal S1x1 .f32 :=
  select (ori (cmpf (F := Ideal) (φ := .f32) .olt (mulf (broadcast S1x1 (a : Ideal .f32)) (broadcast S1x1 (Scalar.ofBits .f32 0x37924925#32))) (broadcast S1x1 (Scalar.ofBits .f32 0x00800000#32)))
      (cmpf (F := Ideal) (φ := .f32) .oeq (mulf (broadcast S1x1 (a : Ideal .f32)) (broadcast S1x1 (Scalar.ofBits .f32 0x37924925#32))) (broadcast S1x1 (Scalar.ofBits .f32 0x7F800000#32))))
    (broadcast S1x1 (Scalar.ofBits .f32 0x3F800000#32)) m

theorem k0_pay3_shape (v : Vec Ideal S4096x25472 .bf16) :
    k0_pay3 (F := Ideal) v = scaleVec (amaxOf v) (shapeCast S1x1 (leastVec (amaxOf v)) shapeCasts_S1_S1x1) := rfl

theorem scaleVec_apply (a : EReal) (m : FVec Ideal S1x1 .f32) (z : S1x1.Idx) :
    scaleVec a m z = Scalar.select (IntOp.ori (Ideal.cmp .olt (a * c57344) (Ideal.ofBits .f32 0x00800000#32))
      (Ideal.cmp .oeq (a * c57344) (Ideal.ofBits .f32 0x7F800000#32))) (Ideal.ofBits .f32 0x3F800000#32) (m z) := rfl

theorem select_or (r m x y : EReal) : Scalar.select (IntOp.ori (Ideal.cmp .olt r x) (Ideal.cmp .oeq r ⊤)) y m = if r < x ∨ r = ⊤ then y else m := by
  unfold Ideal.cmp Scalar.select
  dsimp only
  by_cases h : r < x <;> by_cases h' : r = ⊤ <;> simp [h, h', IntOp.ori]

/-- The scale. -/
theorem k0_pay3_eq (v : Vec Ideal S4096x25472 .bf16) (z : S1x1.Idx) : k0_pay3 (F := Ideal) v z = leastPow (amaxOf v * c57344) := by
  have hc : (shapeCast S1x1 (leastVec (amaxOf v)) shapeCasts_S1_S1x1) z = (Finset.univ : Finset (Fin 256)).fold min ⊤ (cand (amaxOf v * c57344)) :=
    leastVec_eq _ _
  rw [k0_pay3_shape, scaleVec_apply, hc, bits_min, bits_one, pos_inf_f32, select_or]
  rfl

end Cert.ReferenceIdeal.ScaleValue

end
-- ==== Proof.ReferenceValue.lean ====
/- The reference's results over the extended reals are `Spec`'s. -/
module

public import proofs.«01_k».proof.Proof.Gen.ReferenceIdeal.Value
public import proofs.«01_k».proof.Proof.ScaleReference
public import proofs.«01_k».proof.Proof.Spec
public import Idealize.ShloMosaic.Lib.MatmulPlain
public import Idealize.ShloMosaic.Lib.ValueIdxCore

@[expose] public section

set_option maxRecDepth 16384

noncomputable section

namespace Cert.ReferenceIdeal.Results

open Cert.ReferenceIdeal Cert.ReferenceIdeal.Gen
open Idealize.ShloMosaic Idealize.ShloMosaic.TcCoe Idealize.SL.Sem
open Idealize.ShloMosaic.Pipeline (Dat)
open Cert.ReferenceIdeal.ScaleValue

/-! ## The body's values -/

/-- The one index of a `1 × 1` array. -/
abbrev z0 : S1x1.Idx := ix2 0 0
theorem eq_z0 (z : S1x1.Idx) : z = z0 := funext fun a => Fin.ext (by
  have e : ∀ a, S1x1.size a = 1 := by decide
  have := (z a).isLt; have := (z0 a).isLt; have := e a; omega)

theorem amaxOf_eq (d : Vec Ideal S4096x25472 .bf16) : amaxOf d = Spec.amax (fun i => (d i : EReal)) :=
  Spec.eq_amax _ _ (amaxOf_le d)

theorem scale_pay (d : Vec Ideal S4096x25472 .bf16) (z : S1x1.Idx) : k0_pay3 (F := Ideal) d z = Spec.scale d := by
  rw [k0_pay3_eq, amaxOf_eq]; rfl

theorem codes_pay (d : Vec Ideal S4096x25472 .bf16) (y : S4096x25472.Idx) : k0_pay4 (F := Ideal) d y = Spec.codes d y := by
  have hr : r0_0.idx y = y := funext fun a => Fin.ext (by
    match a with
    | ⟨0, _⟩ => show 0 + 1 * (y 0).val = (y 0).val; omega
    | ⟨1, _⟩ => show 0 + 1 * (y 1).val = (y 1).val; omega)
  rw [Value.piece5_0, hr]
  have hi : Value.ix5_0 y = y := funext fun a => Fin.ext (by
    match a with
    | ⟨0, _⟩ => rfl
    | ⟨1, _⟩ => rfl)
  show min (Ideal.ofBits .f32 0x47600000#32) (max (Ideal.ofBits .f32 0xC7600000#32)
    ((d (Value.ix5_0 y) : EReal) * Ideal.div (Ideal.ofBits .f32 0x3F800000#32) (k0_pay3 (F := Ideal) d (Value.ix5_1 y)))) = _
  rw [hi, scale_pay, bits_one]
  rfl

/-- The product of `x` and the codes over the tokens. -/
theorem dot_apply (x : FVec Ideal S4096x1280 .fp8e4m3) (q : FVec Ideal S4096x25472 .fp8e5m2) (acc : FVec Ideal S1280x25472 .f32) (j : S1280x25472.Idx) :
    FloatOps.matmul dot_S4096x1280_S4096x25472_S1280x25472_0_0_1_1_n_n none x q acc j
      = acc j + ∑ k : Fin 4096, (x (ix2 k (j 0)) : EReal) * (q (ix2 k (j 1)) : EReal) := by
  have hr : dot_S4096x1280_S4096x25472_S1280x25472_0_0_1_1_n_n.contr.rank = 1 := rfl
  have hs : dot_S4096x1280_S4096x25472_S1280x25472_0_0_1_1_n_n.contr.size ⟨0, by omega⟩ = 4096 := rfl
  rw [Ideal.matmul_apply, ← Equiv.sum_comp (ValueIdx.contrEquiv1 dot_S4096x1280_S4096x25472_S1280x25472_0_0_1_1_n_n 4096 hr hs).symm]
  refine congrArg (acc j + ·) (Finset.sum_congr rfl fun k _ => ?_)
  have hk := ValueIdx.contrEquiv1_symm_val dot_S4096x1280_S4096x25472_S1280x25472_0_0_1_1_n_n 4096 hr hs k
  have el : dot_S4096x1280_S4096x25472_S1280x25472_0_0_1_1_n_n.lhsIdx j ((ValueIdx.contrEquiv1 dot_S4096x1280_S4096x25472_S1280x25472_0_0_1_1_n_n 4096 hr hs).symm k) = ix2 k (j 0) := by
    funext a; apply Fin.ext
    match a with
    | ⟨0, _⟩ => exact hk
    | ⟨1, _⟩ => rfl
  have er : dot_S4096x1280_S4096x25472_S1280x25472_0_0_1_1_n_n.rhsIdx j ((ValueIdx.contrEquiv1 dot_S4096x1280_S4096x25472_S1280x25472_0_0_1_1_n_n 4096 hr hs).symm k) = ix2 k (j 1) := by
    funext a; apply Fin.ext
    match a with
    | ⟨0, _⟩ => exact hk
    | ⟨1, _⟩ => rfl
  rw [el, er]
  rfl

theorem dot_pay (d : Vec Ideal S4096x25472 .bf16) (x : Vec Ideal S4096x1280 .fp8e4m3) (j : S1280x25472.Idx) :
    k0_pay5 (F := Ideal) d x j = ∑ k : Fin 4096, (x (ix2 k (j 0)) : EReal) * Spec.codes d (ix2 k (j 1)) := by
  have h : k0_pay5 (F := Ideal) d x = FloatOps.matmul dot_S4096x1280_S4096x25472_S1280x25472_0_0_1_1_n_n none
      (shapeCast S4096x1280 x shapeCasts_S4096x1280_S4096x1280) (k0_pay4 (F := Ideal) d) (fun _ => Ideal.ofBits .f32 0x00000000#32) := rfl
  rw [h, dot_apply, Ideal.ofBits_zero_f32, zero_add, shapeCast_self]
  exact Finset.sum_congr rfl fun k _ => by rw [codes_pay]

theorem dw_pay (A : Vec Ideal S1280x25472 .f32) (d : Vec Ideal S4096x25472 .bf16) (x : Vec Ideal S4096x1280 .fp8e4m3) (s : Vec Ideal S1x1 .f32)
    (y : S1280x25472.Idx) : k0_pay1 (F := Ideal) (k0_pay3 d) (k0_pay5 d x) A s y = Spec.dw x d A (s z0) y := by
  have hr : r0_2.idx y = y := funext fun a => Fin.ext (by
    match a with
    | ⟨0, _⟩ => show 0 + 1 * (y 0).val = (y 0).val; omega
    | ⟨1, _⟩ => show 0 + 1 * (y 1).val = (y 1).val; omega)
  rw [Value.piece4_0, hr]
  have hi : Value.ix4_0 y = y := funext fun a => Fin.ext (by
    match a with
    | ⟨0, _⟩ => rfl
    | ⟨1, _⟩ => rfl)
  have hi' : Value.ix4_1 y = y := hi
  show (A (Value.ix4_0 y) : EReal) + k0_pay5 (F := Ideal) d x (Value.ix4_1 y) * ((s (Value.ix4_2 y) : EReal) * k0_pay3 (F := Ideal) d (Value.ix4_3 y)) = _
  rw [hi, hi', dot_pay, scale_pay, eq_z0 (Value.ix4_2 y)]
  rfl

theorem zero2 : (![0, 0] : Fin 2 → ℕ) = fun _ => 0 := by
  funext a; match a with
  | ⟨0, _⟩ => rfl
  | ⟨1, _⟩ => rfl

theorem out4 (x : Vec Ideal S4096x1280 .fp8e4m3) (s : Vec Ideal S1x1 .f32) (d : Vec Ideal S4096x25472 .bf16) (A : Vec Ideal S1280x25472 .f32) :
    out0_4 x s d A = Spec.dw x d A (s z0) := by
  unfold out0_4 k0_pay6
  rw [View.canon_unit_zero zero2, View.ld_unit_zero zero2, View.ld_unit_zero zero2, View.ld_unit_zero zero2, View.ld_unit_zero zero2]
  funext y; exact dw_pay A d x s y
theorem out5 (x : Vec Ideal S4096x1280 .fp8e4m3) (s : Vec Ideal S1x1 .f32) (d : Vec Ideal S4096x25472 .bf16) (A : Vec Ideal S1280x25472 .f32) :
    out0_5 x s d A = Spec.codes d := by
  unfold out0_5
  rw [View.canon_unit_zero zero2, View.ld_unit_zero zero2]
  funext y; exact codes_pay d y
theorem out6 (x : Vec Ideal S4096x1280 .fp8e4m3) (s : Vec Ideal S1x1 .f32) (d : Vec Ideal S4096x25472 .bf16) (A : Vec Ideal S1280x25472 .f32) :
    out0_6 x s d A = fun _ => Spec.scale d := by
  unfold out0_6 k0_pay6
  rw [View.canon_unit_zero zero2, View.ld_unit_zero zero2]
  funext y; exact scale_pay d y

/-! ## The arrays -/

variable (m : (ℓ : Loc nD τ sig) → Buf (Elt Ideal) ℓ) (ρ : Dev nD → PrngReg)

theorem emb0 (t : Fin cfg0.N) (y : S4096x1280.Idx) : ((cfg0.win 0).blk t).view.emb y = y := funext fun a => Fin.ext (by
  show 0 * _ + 1 * (y a).val = (y a).val; omega)
theorem emb1 (t : Fin cfg0.N) (y : S1x1.Idx) : ((cfg0.win 1).blk t).view.emb y = y := funext fun a => Fin.ext (by
  show 0 * _ + 1 * (y a).val = (y a).val; omega)
theorem emb2 (t : Fin cfg0.N) (y : S4096x25472.Idx) : ((cfg0.win 2).blk t).view.emb y = y := funext fun a => Fin.ext (by
  show 0 * _ + 1 * (y a).val = (y a).val; omega)
theorem emb3 (t : Fin cfg0.N) (y : S1280x25472.Idx) : ((cfg0.win 3).blk t).view.emb y = y := funext fun a => Fin.ext (by
  show 0 * _ + 1 * (y a).val = (y a).val; omega)
theorem emb4 (t : Fin cfg0.N) (y : S1280x25472.Idx) : ((cfg0.win 4).blk t).view.emb y = y := funext fun a => Fin.ext (by
  show 0 * _ + 1 * (y a).val = (y a).val; omega)
theorem emb5 (t : Fin cfg0.N) (y : S4096x25472.Idx) : ((cfg0.win 5).blk t).view.emb y = y := funext fun a => Fin.ext (by
  show 0 * _ + 1 * (y a).val = (y a).val; omega)
theorem emb6 (t : Fin cfg0.N) (y : S1x1.Idx) : ((cfg0.win 6).blk t).view.emb y = y := funext fun a => Fin.ext (by
  show 0 * _ + 1 * (y a).val = (y a).val; omega)

/-- The arrays the body reads: `x` and `dy` reshaped, the scale of `x`, the accumulator. -/
abbrev X (c : Dev nD) : Vec Ideal S4096x1280 .fp8e4m3 := V m c main_v0
abbrev S (c : Dev nD) : Vec Ideal S1x1 .f32 := V m c main_v1
abbrev D (c : Dev nD) : Vec Ideal S4096x25472 .bf16 := V m c main_v2
abbrev A (c : Dev nD) : Vec Ideal S1280x25472 .f32 := V m c main_arg3

theorem iblk0 (c : Dev nD) (t : Fin cfg0.N) : iblk m c 0 t = X m c := funext fun y => congrArg (X m c) (emb0 t y)
theorem iblk1 (c : Dev nD) (t : Fin cfg0.N) : iblk m c 1 t = S m c := funext fun y => congrArg (S m c) (emb1 t y)
theorem iblk2 (c : Dev nD) (t : Fin cfg0.N) : iblk m c 2 t = D m c := funext fun y => congrArg (D m c) (emb2 t y)
theorem iblk3 (c : Dev nD) (t : Fin cfg0.N) : iblk m c 3 t = A m c := funext fun y => congrArg (A m c) (emb3 t y)

theorem mem4 (i : S1280x25472.Idx) : ∃ t : Fin cfg0.N, (cfg0.win 4).flush t = true ∧ i ∈ ((cfg0.win 4).blk t).view.set := by
  refine ⟨⟨0, by decide⟩, by decide +kernel, ?_⟩
  have := ((cfg0.win 4).blk ⟨0, by decide⟩).view.emb_mem_set i
  rwa [emb4] at this

theorem mem5 (i : S4096x25472.Idx) : ∃ t : Fin cfg0.N, (cfg0.win 5).flush t = true ∧ i ∈ ((cfg0.win 5).blk t).view.set := by
  refine ⟨⟨0, by decide⟩, by decide +kernel, ?_⟩
  have := ((cfg0.win 5).blk ⟨0, by decide⟩).view.emb_mem_set i
  rwa [emb5] at this
theorem mem6 (i : S1x1.Idx) : ∃ t : Fin cfg0.N, (cfg0.win 6).flush t = true ∧ i ∈ ((cfg0.win 6).blk t).view.set := by
  refine ⟨⟨0, by decide⟩, by decide +kernel, ?_⟩
  have := ((cfg0.win 6).blk ⟨0, by decide⟩).view.emb_mem_set i
  rwa [emb6] at this

theorem final4 (c : Dev nD) : (dats m 0 c).arrAt 4 cfg0.N = Spec.dw (X m c) (D m c) (A m c) (S m c z0) :=
  (dats m 0 c).arrAt_eq_of_cover 4 _ (fun t hf => by
    rw [Value.flushed4, iblk0, iblk1, iblk2, iblk3, out4]
    funext y
    exact congrArg (Spec.dw (X m c) (D m c) (A m c) (S m c z0)) (emb4 t y).symm) mem4
theorem final5 (c : Dev nD) : (dats m 0 c).arrAt 5 cfg0.N = Spec.codes (D m c) :=
  (dats m 0 c).arrAt_eq_of_cover 5 _ (fun t hf => by
    rw [Value.flushed5, iblk0, iblk1, iblk2, iblk3, out5]
    funext y
    exact congrArg (Spec.codes (D m c)) (emb5 t y).symm) mem5
theorem final6 (c : Dev nD) : (dats m 0 c).arrAt 6 cfg0.N = fun _ => Spec.scale (D m c) :=
  (dats m 0 c).arrAt_eq_of_cover 6 _ (fun t hf => by
    rw [Value.flushed6, iblk0, iblk1, iblk2, iblk3, out6]
    rfl) mem6

/-! ## The arguments -/

theorem X_eq (c : Dev nD) : X m c = shapeCast S4096x1280 (m ((c : Thread nD τ).loc main_arg0)) shapeCasts_S2x2048x1280_S4096x1280 := by
  show StableHlo.after hostOps0 (fun b => m (c, b)) (Proc.devRef .tc main_v0) = _
  after_results
  rfl
theorem D_eq (c : Dev nD) : D m c = shapeCast S4096x25472 (m ((c : Thread nD τ).loc main_arg2)) shapeCasts_S2x2048x25472_S4096x25472 := by
  show StableHlo.after hostOps0 (fun b => m (c, b)) (Proc.devRef .tc main_v2) = _
  after_results
  rfl
theorem S_eq (c : Dev nD) : S m c = shapeCast S1x1 (m ((c : Thread nD τ).loc main_arg1)) shapeCasts_S_S1x1 := by
  show StableHlo.after hostOps0 (fun b => m (c, b)) (Proc.devRef .tc main_v1) = _
  after_results
  rfl

/-- The reference's run. -/
theorem run : θ_run defs (onTc (τ := τ) (main (F := Ideal))) ⟨m, fun _ => 0, ρ⟩ fun r => ∀ c : Dev nD,
      r.2.mem ((c : Thread nD τ).loc main_v3_0) = Spec.dw (X m c) (D m c) (A m c) (S m c z0)
      ∧ r.2.mem ((c : Thread nD τ).loc main_v3_1) = Spec.codes (D m c)
      ∧ r.2.mem ((c : Thread nD τ).loc main_v3_2) = (fun _ => Spec.scale (D m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Cert.ReferenceIdeal.Results

end
-- ==== Proof.Algebraic.lean ====
/- The kernel and the reference, from memories that agree on the arguments, end with equal results over the extended reals. -/
module

public import proofs.«01_k».proof.Defs
public import proofs.«01_k».proof.Proof.KernelValue
public import proofs.«01_k».proof.Proof.ReferenceValue

@[expose] public section

set_option maxRecDepth 16384

noncomputable section

namespace Cert.Agree

open Idealize.ShloMosaic Idealize.ShloMosaic.TcCoe Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem x_eq (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)) :
    ReferenceIdeal.Results.X m' c = KernelIdeal.Results.X m c := by
  rw [ReferenceIdeal.Results.X_eq, h]; rfl
theorem d_eq (c : Dev KernelIdeal.nD)
    (h : m' ((c.tc : Thread ReferenceIdeal.nD ReferenceIdeal.τ).loc ReferenceIdeal.main_arg2) = m ((c.tc : Thread KernelIdeal.nD KernelIdeal.τ).loc KernelIdeal.main_arg2)) :
    ReferenceIdeal.Results.D m' c = KernelIdeal.Results.D m c := by
  rw [ReferenceIdeal.Results.D_eq, h]; rfl
theorem a_eq (c : Dev KernelIdeal.nD)
    (h : m' ((c.tc : Thread ReferenceIdeal.nD ReferenceIdeal.τ).loc ReferenceIdeal.main_arg3) = m ((c.tc : Thread KernelIdeal.nD KernelIdeal.τ).loc KernelIdeal.main_arg3)) :
    ReferenceIdeal.Results.A m' c = KernelIdeal.Results.A m c :=
  (ReferenceIdeal.Gen.V_main_arg3 m' c).trans h
theorem s_eq (c : Dev KernelIdeal.nD)
    (h : m' ((c.tc : Thread ReferenceIdeal.nD ReferenceIdeal.τ).loc ReferenceIdeal.main_arg1) = m ((c.tc : Thread KernelIdeal.nD KernelIdeal.τ).loc KernelIdeal.main_arg1)) :
    ReferenceIdeal.Results.S m' c ReferenceIdeal.Results.z0 = KernelIdeal.Results.xScale m c KernelIdeal.Wgrad.i00 := by
  rw [ReferenceIdeal.Results.S_eq, h, KernelIdeal.Wgrad.eq_i00 ReferenceIdeal.Results.z0]; rfl

end Cert.Agree

namespace Cert

open Idealize.ShloMosaic Idealize.ShloMosaic.TcCoe Idealize.SL.Sem

theorem algebraic_proof : algebraic_KernelIdeal_ReferenceIdeal := by
  intro m g m' g' _ h
  refine ⟨fun c => Spec.dw (KernelIdeal.Results.X m c) (KernelIdeal.Results.D m c) (KernelIdeal.Results.A m c) (KernelIdeal.Results.xScale m c KernelIdeal.Wgrad.i00),
    fun c => Spec.codes (KernelIdeal.Results.D m c), fun c _ => Spec.scale (KernelIdeal.Results.D m c), KernelIdeal.Results.run m g, ?_⟩
  refine (θ_run ReferenceIdeal.defs _ _).mono (fun r hr c => ?_) (ReferenceIdeal.Results.run m' g')
  obtain ⟨hdw, hcodes, hscale, hargs⟩ := hr c
  obtain ⟨h0, h1, h2, h3⟩ := h c
  rw [Agree.x_eq m m' c h0, Agree.d_eq m m' c h2, Agree.a_eq m m' c h3, Agree.s_eq m m' c h1] at hdw
  rw [Agree.d_eq m m' c h2] at hcodes hscale
  exact ⟨hdw, hcodes, hscale, hargs⟩

end Cert

end
-- ==== Proof.Printed.AmaxRun.lean ====
/- What one grid point of the first call (`amax_xt`) does to whole buffers, in the three cases of its two guards: at the first
   point the column maxima of the block are stored into the scratch, at a later point they are taken into it, and at the last
   point the scale and its inverse are stored besides. The transposed block of codes is stored at every point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Amax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- One store through a whole block leaves its payload. -/
theorem read_writes_whole {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) :
    v.read (Elt F) (v.writes (Elt F) f [(⟨Rect.unit off S.size inb, w⟩ : View.Piece (Elt F) S e)]) = w := by
  rw [View.read_writes_eq_canon v f _ (fun y => ⟨_, List.mem_singleton_self _, View.mem_set_unit_zero h inb y⟩), View.canon_unit_zero h]

/-- The first guard: the first point. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The second guard: the points after the first. -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ 1 ≤ t.val :=
  (by decide +kernel : ∀ t : Fin grid0.N, cond0_1 (grid0.coords t) ↔ 1 ≤ t.val)
/-- The third guard: the last point. -/
abbrev cond0_2 (i : grid0.Coords) : Prop := k0_cond3 i = 1#1
theorem hcond0_2 : ∀ t : Fin cfg0.N, cond0_2 (grid0.coords t) ↔ t.val = 31 :=
  (by decide +kernel : ∀ t : Fin grid0.N, cond0_2 (grid0.coords t) ↔ t.val = 31)

set_option maxHeartbeats 1000000 in
/-- The first point. -/
theorem run_first (c : Dev nD) (i : grid0.Coords) (arg1 : Memref sig .tc .vmem S128x25472 .bf16) (harg1 : arg1.IsWhole) (arg2 : Memref sig .tc .vmem S128x1280 .fp8e4m3) (harg2 : arg2.IsWhole) (arg3 : Memref sig .tc .vmem S1x1 .f32) (harg3 : arg3.IsWhole) (arg4 : Memref sig .tc .vmem S1x1 .f32) (harg4 : arg4.IsWhole) (arg5 : Memref sig .tc .vmem S1280x128 .fp8e4m3) (harg5 : arg5.IsWhole) (arg6 : Memref sig .tc .vmem S16x25472 .bf16) (harg6 : arg6.IsWhole) (hc0 : cond0_0 i) (hc1 : ¬cond0_1 i) (hc2 : ¬cond0_2 i)
    (x0 : Vec F S128x25472 .bf16) (x1 : Vec F S128x1280 .fp8e4m3) (E : Set ℕ) (K : PUnit → sProp 𝕄) :
    iprop(owns (c : Thread nD τ) arg1 fullShare x0 ∗ owns (c : Thread nD τ) arg2 fullShare x1 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg5 fullShare (k0_pay4 x1) ∗ owns (c : Thread nD τ) arg6 fullShare (k0_pay2 x0)) -∗ K ⟨⟩))
      ⊢ wp frame (wpE (defs₀ (F := F)) Variants.none c none) E (cc0_amax_xt i arg1 harg1 arg2 harg2 arg3 harg3 arg4 harg4 arg5 harg5 arg6 harg6) K := by
  simp only [cc0_amax_xt_eq_skeleton]; unfold cc0_amax_xt_skel
  unfold owns
  iintro ⟨⟨%f0, %hf0, H0⟩, ⟨%f1, %hf1, H1⟩, ⟨%d4, %f4, -, H4⟩, ⟨%ds0, %fs0, -, HS0⟩, Hk⟩
  obtain rfl := harg1.eq_unread hf0; obtain rfl := harg2.eq_unread hf1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H4]
  · iexists _; isplitr
    swap; · iexact H4
    ipureintro
    refine (read_writes_whole _ _ hz _ _).trans ?_
    simp only [View.readAt_eq_ld, harg2.read_unread, View.ld_unit_zero (S := S128x1280) hz]
  iexists _; isplitr
  swap; · iexact HS0
  ipureintro
  refine (read_writes_whole _ _ hz _ _).trans ?_
  simp only [View.readAt_eq_ld, harg1.read_unread, View.ld_unit_zero (S := S128x25472) hz]

set_option maxHeartbeats 1000000 in
/-- A point between the first and the last. -/
theorem run_mid (c : Dev nD) (i : grid0.Coords) (arg1 : Memref sig .tc .vmem S128x25472 .bf16) (harg1 : arg1.IsWhole) (arg2 : Memref sig .tc .vmem S128x1280 .fp8e4m3) (harg2 : arg2.IsWhole) (arg3 : Memref sig .tc .vmem S1x1 .f32) (harg3 : arg3.IsWhole) (arg4 : Memref sig .tc .vmem S1x1 .f32) (harg4 : arg4.IsWhole) (arg5 : Memref sig .tc .vmem S1280x128 .fp8e4m3) (harg5 : arg5.IsWhole) (arg6 : Memref sig .tc .vmem S16x25472 .bf16) (harg6 : arg6.IsWhole) (hc0 : ¬cond0_0 i) (hc1 : cond0_1 i) (hc2 : ¬cond0_2 i)
    (x0 : Vec F S128x25472 .bf16) (x1 : Vec F S128x1280 .fp8e4m3) (xs : Vec F S16x25472 .bf16) (E : Set ℕ) (K : PUnit → sProp 𝕄) :
    iprop(owns (c : Thread nD τ) arg1 fullShare x0 ∗ owns (c : Thread nD τ) arg2 fullShare x1 ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg5 fullShare (k0_pay4 x1) ∗ owns (c : Thread nD τ) arg6 fullShare (k0_pay3 x0 xs)) -∗ K ⟨⟩))
      ⊢ wp frame (wpE (defs₀ (F := F)) Variants.none c none) E (cc0_amax_xt i arg1 harg1 arg2 harg2 arg3 harg3 arg4 harg4 arg5 harg5 arg6 harg6) K := by
  simp only [cc0_amax_xt_eq_skeleton]; unfold cc0_amax_xt_skel
  unfold owns
  iintro ⟨⟨%f0, %hf0, H0⟩, ⟨%f1, %hf1, H1⟩, ⟨%d4, %f4, -, H4⟩, ⟨%fs0, %hfs, HS0⟩, Hk⟩
  obtain rfl := harg1.eq_unread hf0; obtain rfl := harg2.eq_unread hf1; obtain rfl := harg6.eq_unread hfs
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H4]
  · iexists _; isplitr
    swap; · iexact H4
    ipureintro
    refine (read_writes_whole _ _ hz _ _).trans ?_
    simp only [View.readAt_eq_ld, harg2.read_unread, View.ld_unit_zero (S := S128x1280) hz]
  iexists _; isplitr
  swap; · iexact HS0
  ipureintro
  refine (read_writes_whole _ _ hz _ _).trans ?_
  simp only [View.readAt_eq_ld, harg1.read_unread, harg6.read_unread, View.ld_unit_zero (S := S128x25472) hz, View.ld_unit_zero (S := S16x25472) hz]

set_option maxHeartbeats 1000000 in
/-- The last point. -/
theorem run_last (c : Dev nD) (i : grid0.Coords) (arg1 : Memref sig .tc .vmem S128x25472 .bf16) (harg1 : arg1.IsWhole) (arg2 : Memref sig .tc .vmem S128x1280 .fp8e4m3) (harg2 : arg2.IsWhole) (arg3 : Memref sig .tc .vmem S1x1 .f32) (harg3 : arg3.IsWhole) (arg4 : Memref sig .tc .vmem S1x1 .f32) (harg4 : arg4.IsWhole) (arg5 : Memref sig .tc .vmem S1280x128 .fp8e4m3) (harg5 : arg5.IsWhole) (arg6 : Memref sig .tc .vmem S16x25472 .bf16) (harg6 : arg6.IsWhole) (hc0 : ¬cond0_0 i) (hc1 : cond0_1 i) (hc2 : cond0_2 i)
    (x0 : Vec F S128x25472 .bf16) (x1 : Vec F S128x1280 .fp8e4m3) (xs : Vec F S16x25472 .bf16) (E : Set ℕ) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare (k0_pay5 (F := F) (k0_pay8 (k0_pay3 x0 xs))) ∗ owns (c : Thread nD τ) arg4 fullShare (k0_pay6 (F := F) (k0_pay7 (k0_pay3 x0 xs))) ∗ owns (c : Thread nD τ) arg5 fullShare (k0_pay4 x1) ∗ owns (c : Thread nD τ) arg6 fullShare (k0_pay3 x0 xs)) -∗ K ⟨⟩))
      ⊢ wp frame (wpE (defs₀ (F := F)) Variants.none c none) E (cc0_amax_xt i arg1 harg1 arg2 harg2 arg3 harg3 arg4 harg4 arg5 harg5 arg6 harg6) K := by
  simp only [cc0_amax_xt_eq_skeleton]; unfold cc0_amax_xt_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%fs0, %hfs, HS0⟩, Hk⟩
  obtain rfl := harg1.eq_unread hf0; obtain rfl := harg2.eq_unread hf1; obtain rfl := harg6.eq_unread hfs
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    refine (read_writes_whole _ _ hz _ _).trans ?_
    sl_unfold_words
    simp only [View.readCov_unit_zero (S := S16x25472) _ hz, View.readAt_eq_ld, harg1.read_unread, harg6.read_unread, View.ld_unit_zero (S := S128x25472) hz, View.ld_unit_zero (S := S16x25472) hz]
  isplitl [H3]
  · iexists _; isplitr
    swap; · iexact H3
    ipureintro
    refine (read_writes_whole _ _ hz _ _).trans ?_
    sl_unfold_words
    simp only [View.readCov_unit_zero (S := S16x25472) _ hz, View.readAt_eq_ld, harg1.read_unread, harg6.read_unread, View.ld_unit_zero (S := S128x25472) hz, View.ld_unit_zero (S := S16x25472) hz]
  isplitl [H4]
  · iexists _; isplitr
    swap; · iexact H4
    ipureintro
    refine (read_writes_whole _ _ hz _ _).trans ?_
    simp only [View.readAt_eq_ld, harg2.read_unread, View.ld_unit_zero (S := S128x1280) hz]
  iexists _; isplitr
  swap; · iexact HS0
  ipureintro
  refine (read_writes_whole _ _ hz _ _).trans ?_
  simp only [View.readAt_eq_ld, harg1.read_unread, harg6.read_unread, View.ld_unit_zero (S := S128x25472) hz, View.ld_unit_zero (S := S16x25472) hz]

end Cert.Kernel.Amax

end
-- ==== Proof.Printed.AmaxBody.lean ====
/- The first call's proof data: what its buffers hold between points, by name — the scratch at the running column maxima
   `acc`, the last block of scale and inverse at the values computed from them — and the body meeting it at every point. -/
module

public import proofs.«01_k».proof.Proof.Printed.AmaxRun

@[expose] public section

set_option maxRecDepth 16384

noncomputable section

namespace Cert.Kernel.Amax

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

abbrev ms0_0 (t : Fin cfg0.N) : Memref sig .tc .vmem S128x25472 .bf16 := win0_0.stage (cfg0.slots t 0)
abbrev ms0_1 (t : Fin cfg0.N) : Memref sig .tc .vmem S128x1280 .fp8e4m3 := win0_1.stage (cfg0.slots t 1)
abbrev ms0_2 (t : Fin cfg0.N) : Memref sig .tc .vmem S1x1 .f32 := win0_2.stage (cfg0.slots t 2)
abbrev ms0_3 (t : Fin cfg0.N) : Memref sig .tc .vmem S1x1 .f32 := win0_3.stage (cfg0.slots t 3)
abbrev ms0_4 (t : Fin cfg0.N) : Memref sig .tc .vmem S1280x128 .fp8e4m3 := win0_4.stage (cfg0.slots t 4)
abbrev scM0_0 : Memref sig .tc .vmem S16x25472 .bf16 := Memref.whole cc0_scratch0

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The scratch after point `n`: the column maxima (of absolute values) of the blocks so far. -/
def acc (c : Dev nD) : (n : ℕ) → n < cfg0.N → Vec F S16x25472 .bf16
  | 0, h => k0_pay2 (iblk W c 0 ⟨0, h⟩)
  | n + 1, h => k0_pay3 (iblk W c 0 ⟨n + 1, h⟩) (acc c n (Nat.lt_of_succ_lt h))

/-- The scoped buffers that the first call does not use, each at some contents. -/
def others (c : Dev nD) : sProp 𝕄 :=
  iprop((∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f))

theorem PhiA0_eq (c : Dev nD) :
    (Pipeline.ΦA spec0 c : sProp 𝕄)
      = iprop(((∃ d, owns (c : Thread nD τ) scM0_0 fullShare d) ∗ others (F := F) c) ∗ (∃ r, prngReg c r)) := by
  unfold Pipeline.ΦA others; rw [scopedRest0_eq]; simp only [scM0_0, owns_whole]; try rfl

/-- The invariant before point `n`. -/
def PhiS (c : Dev nD) : (n : ℕ) → n ≤ cfg0.N → sProp 𝕄
  | 0, _ => Pipeline.ΦA spec0 c
  | n + 1, hn => iprop((owns (c : Thread nD τ) scM0_0 fullShare (acc W c n hn) ∗ others (F := F) c) ∗ (∃ r, prngReg c r))

theorem PhiS_zero (c : Dev nD) (n : ℕ) (h : n ≤ cfg0.N) (hz : n = 0) : PhiS W c n h = Pipeline.ΦA spec0 c := by
  subst hz; rfl

theorem PhiS_succ (c : Dev nD) (n : ℕ) (hn : n < cfg0.N) :
    PhiS W c (n + 1) hn = iprop((owns (c : Thread nD τ) scM0_0 fullShare (acc W c n hn) ∗ others (F := F) c) ∗ (∃ r, prngReg c r)) := rfl

theorem PhiS_pos (c : Dev nD) (n : ℕ) (h : n ≤ cfg0.N) (hz : n ≠ 0) :
    PhiS W c n h = iprop((owns (c : Thread nD τ) scM0_0 fullShare (acc W c (n - 1) (by omega)) ∗ others (F := F) c) ∗ (∃ r, prngReg c r)) := by
  cases n with
  | zero => exact absurd rfl hz
  | succ n => rfl

theorem acc_zero (c : Dev nD) (t : Fin cfg0.N) (h : t.val = 0) : acc W c t.val t.isLt = k0_pay2 (iblk W c 0 t) := by
  obtain ⟨n, hn⟩ := t; dsimp only at h; subst h; rfl

theorem acc_pos (c : Dev nD) (t : Fin cfg0.N) (h : t.val ≠ 0) :
    acc W c t.val t.isLt = k0_pay3 (iblk W c 0 t) (acc W c (t.val - 1) (by omega)) := by
  obtain ⟨n, hn⟩ := t
  cases n with
  | zero => exact absurd rfl h
  | succ n => rfl

/-- The scale and its inverse, as the last point computes them from the column maxima `a`. -/
def scaleOf (a : Vec F S16x25472 .bf16) : Vec F S1x1 .f32 := k0_pay5 (F := F) (k0_pay8 a)
def invOf (a : Vec F S16x25472 .bf16) : Vec F S1x1 .f32 := k0_pay6 (F := F) (k0_pay7 a)

/-- The proof data of the first call. -/
def dats (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => scaleOf (acc W c t.val t.isLt)
    | ⟨3, _⟩ => invOf (acc W c t.val t.isLt)
    | ⟨4, _⟩ => k0_pay4 (iblk W c 1 t)
  Φ t := PhiS W c t.val (Nat.le_of_lt_succ t.isLt)
  q _ := fullShare
  owed _ := 0

theorem A_eq (c : Dev nD) (w : Fin cfg0.W) : (dats W c).A w = W c (Proc.devRef .tc (Pipeline.arrRef spec0 w)) := by
  dsimp only [dats]

theorem PhiS_castSucc (c : Dev nD) (t : Fin cfg0.N) :
    (dats W c).Φ t.castSucc = PhiS W c t.val (Nat.le_of_lt t.isLt) := by
  dsimp only [dats]; exact Pipeline.Dat.Φ_castSucc (PhiS W c) t

theorem after0_0 (c : Dev nD) (t : Fin cfg0.N) : (dats W c).after 0 t = iblk W c 0 t := by dsimp only [dats]
theorem after0_1 (c : Dev nD) (t : Fin cfg0.N) : (dats W c).after 1 t = iblk W c 1 t := by dsimp only [dats]
theorem after0_2 (c : Dev nD) (t : Fin cfg0.N) : (dats W c).after 2 t = scaleOf (acc W c t.val t.isLt) := by dsimp only [dats]
theorem after0_3 (c : Dev nD) (t : Fin cfg0.N) : (dats W c).after 3 t = invOf (acc W c t.val t.isLt) := by dsimp only [dats]
theorem after0_4 (c : Dev nD) (t : Fin cfg0.N) : (dats W c).after 4 t = k0_pay4 (iblk W c 1 t) := by dsimp only [dats]

theorem before0_0 (c : Dev nD) (t : Fin cfg0.N) (d) : (dats W c).before 0 t d = iblk W c 0 t :=
  ((dats W c).before_in_eq_fetched 0 rfl (fun _ => rfl) (fun _ _ _ => rfl) (fun t => by rw [after0_0]; unfold Dat.blockOf iblk; rw [A_eq]) t d).trans
    (by unfold Dat.fetched Dat.blockOf iblk; rw [A_eq]; try rfl)
theorem before0_1 (c : Dev nD) (t : Fin cfg0.N) (d) : (dats W c).before 1 t d = iblk W c 1 t :=
  ((dats W c).before_in_eq_fetched 1 rfl (fun _ => rfl) (fun _ _ _ => rfl) (fun t => by rw [after0_1]; unfold Dat.blockOf iblk; rw [A_eq]) t d).trans
    (by unfold Dat.fetched Dat.blockOf iblk; rw [A_eq]; try rfl)

theorem idle2 : ∀ t : Fin cfg0.N, t.val ≠ 31 → cfg0.idle 2 (grid0.coords t) = true := by decide +kernel
theorem idle3 : ∀ t : Fin cfg0.N, t.val ≠ 31 → cfg0.idle 3 (grid0.coords t) = true := by decide +kernel
theorem live2 : ∀ t : Fin cfg0.N, t.val = 31 → cfg0.idle 2 (grid0.coords t) = false := by decide +kernel
theorem live3 : ∀ t : Fin cfg0.N, t.val = 31 → cfg0.idle 3 (grid0.coords t) = false := by decide +kernel
theorem noFlush2 : ∀ t : Fin cfg0.N, t.val ≠ 31 → (cfg0.win 2).flush t = false := by decide +kernel
theorem noFlush3 : ∀ t : Fin cfg0.N, t.val ≠ 31 → (cfg0.win 3).flush t = false := by decide +kernel

/-- What the body is called with at point `t`, -/
def bodyPre (c : Dev nD) (t : Fin cfg0.N) : sProp 𝕄 :=
  iprop((dats W c).Φ t.castSucc ∗ (dats W c).owesAt () t.castSucc
    ∗ (∃ d, owns (c : Thread nD τ) (ms0_0 t) fullShare ((dats W c).before 0 t d))
    ∗ (∃ d, owns (c : Thread nD τ) (ms0_1 t) fullShare ((dats W c).before 1 t d))
    ∗ (∃ d, owns (c : Thread nD τ) (ms0_2 t) fullShare ((dats W c).before 2 t d))
    ∗ (∃ d, owns (c : Thread nD τ) (ms0_3 t) fullShare ((dats W c).before 3 t d))
    ∗ (∃ d, owns (c : Thread nD τ) (ms0_4 t) fullShare ((dats W c).before 4 t d)))

/-- and what it returns. -/
def bodyPost (c : Dev nD) (t : Fin cfg0.N) : sProp 𝕄 :=
  iprop((dats W c).Φ t.succ ∗ (dats W c).owesAt () t.succ
    ∗ (dats W c).leavesExact 0 t
    ∗ (dats W c).leavesExact 1 t
    ∗ (dats W c).leavesExact 2 t
    ∗ (dats W c).leavesExact 3 t
    ∗ (dats W c).leavesExact 4 t)

set_option maxHeartbeats 1600000 in
/-- The body at any point. -/
theorem sound_body (c : Dev nD) (t : Fin cfg0.N) :
    bodyPre W c t ⊢ wp frame (wpE (defs₀ (F := F)) Variants.none c none) Set.univ (bodyAt0 t) (fun _ => bodyPost W c t) := by
  unfold bodyPre bodyPost bodyAt0
  simp only [before0_0, before0_1]
  rw [show (dats W c).owesAt () t.succ = (dats W c).owesAt () t.castSucc from rfl]
  rw [show (dats W c).Φ t.succ = PhiS W c (t.val + 1) t.isLt from rfl, PhiS_succ]
  rw [show (dats W c).leavesExact 0 t = owns (c : Thread nD τ) (ms0_0 t) fullShare ((dats W c).after 0 t) from rfl, after0_0]
  rw [show (dats W c).leavesExact 1 t = owns (c : Thread nD τ) (ms0_1 t) fullShare ((dats W c).after 1 t) from rfl, after0_1]
  rw [show (dats W c).leavesExact 4 t = owns (c : Thread nD τ) (ms0_4 t) fullShare ((dats W c).after 4 t) from rfl, after0_4]
  have hN : t.val < 32 := lt_of_lt_of_eq t.isLt (show cfg0.N = 32 from N_0)
  by_cases h0 : t.val = 0
  · have h31 : t.val ≠ 31 := by omega
    rw [Dat.leavesExact_idle (dats W c) 2 t (idle2 t h31) (noFlush2 t h31), Dat.leavesExact_idle (dats W c) 3 t (idle3 t h31) (noFlush3 t h31)]
    rw [PhiS_castSucc W c t, PhiS_zero W c _ _ h0, PhiA0_eq, acc_zero W c t h0]
    iintro ⟨⟨⟨HS0, Hr⟩, Hg⟩, Ho, ⟨%d0, H0⟩, ⟨%d1, H1⟩, ⟨%d2, H2⟩, ⟨%d3, H3⟩, ⟨%d4, H4⟩⟩
    iapply (run_first c (grid0.coords t) _ _ _ _ _ _ _ _ _ _ _ _ ((hcond0_0 t).mpr h0) (fun h => absurd ((hcond0_1 t).mp h) (by omega)) (fun h => h31 ((hcond0_2 t).mp h)) (iblk W c 0 t) (iblk W c 1 t) Set.univ _)
    isplitl [H0]; · iexact H0
    isplitl [H1]; · iexact H1
    isplitl [H4]; · iexists _; iexact H4
    isplitl [HS0]; · iexact HS0
    iintro ⟨H0, H1, H4, HS0⟩
    isplitl [HS0 Hr Hg]
    · isplitl [HS0 Hr]
      · isplitl [HS0]; · iexact HS0
        iexact Hr
      iexact Hg
    isplitl [Ho]; · iexact Ho
    isplitl [H0]; · iexact H0
    isplitl [H1]; · iexact H1
    isplitl [H2]; · iexists _; iexact H2
    isplitl [H3]; · iexists _; iexact H3
    iexact H4
  · rw [PhiS_castSucc W c t, PhiS_pos W c _ _ h0, acc_pos W c t h0]
    by_cases h31 : t.val = 31
    · rw [show (dats W c).leavesExact 2 t = owns (c : Thread nD τ) (ms0_2 t) fullShare ((dats W c).after 2 t) from by
        unfold Dat.leavesExact; rw [live2 t h31], after0_2]
      rw [show (dats W c).leavesExact 3 t = owns (c : Thread nD τ) (ms0_3 t) fullShare ((dats W c).after 3 t) from by
        unfold Dat.leavesExact; rw [live3 t h31], after0_3]
      rw [acc_pos W c t h0]
      unfold scaleOf invOf
      iintro ⟨⟨⟨HS0, Hr⟩, Hg⟩, Ho, ⟨%d0, H0⟩, ⟨%d1, H1⟩, ⟨%d2, H2⟩, ⟨%d3, H3⟩, ⟨%d4, H4⟩⟩
      iapply (run_last c (grid0.coords t) _ _ _ _ _ _ _ _ _ _ _ _ (fun h => h0 ((hcond0_0 t).mp h)) ((hcond0_1 t).mpr (by omega)) ((hcond0_2 t).mpr h31) (iblk W c 0 t) (iblk W c 1 t) _ Set.univ _)
      isplitl [H0]; · iexact H0
      isplitl [H1]; · iexact H1
      isplitl [H2]; · iexists _; iexact H2
      isplitl [H3]; · iexists _; iexact H3
      isplitl [H4]; · iexists _; iexact H4
      isplitl [HS0]; · iexact HS0
      iintro ⟨H0, H1, H2, H3, H4, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dats W c) 2 t (idle2 t h31) (noFlush2 t h31), Dat.leavesExact_idle (dats W c) 3 t (idle3 t h31) (noFlush3 t h31)]
      iintro ⟨⟨⟨HS0, Hr⟩, Hg⟩, Ho, ⟨%d0, H0⟩, ⟨%d1, H1⟩, ⟨%d2, H2⟩, ⟨%d3, H3⟩, ⟨%d4, H4⟩⟩
      iapply (run_mid c (grid0.coords t) _ _ _ _ _ _ _ _ _ _ _ _ (fun h => h0 ((hcond0_0 t).mp h)) ((hcond0_1 t).mpr (by omega)) (fun h => h31 ((hcond0_2 t).mp h)) (iblk W c 0 t) (iblk W c 1 t) _ Set.univ _)
      isplitl [H0]; · iexact H0
      isplitl [H1]; · iexact H1
      isplitl [H4]; · iexists _; iexact H4
      isplitl [HS0]; · iexact HS0
      iintro ⟨H0, H1, H4, HS0⟩
      isplitl [HS0 Hr Hg]
      · isplitl [HS0 Hr]
        · isplitl [HS0]; · iexact HS0
          iexact Hr
        iexact Hg
      isplitl [Ho]; · iexact Ho
      isplitl [H0]; · iexact H0
      isplitl [H1]; · iexact H1
      isplitl [H2]; · iexists _; iexact H2
      isplitl [H3]; · iexists _; iexact H3
      iexact H4

theorem defs₀_row (t : Fin cfg0.N) :
    defs₀ (F := F) .tc cfg0.body (cfg0.bodyArgs t (cfg0.slots t)) = bodyAt0 t := by
  unfold defs₀; rw [Defs.onTc_tc]

/-- The body obligation of the first call. -/
theorem body_obligation (c : Dev nD) : BodyObligation (dats (F := F) W c) (defs₀ (F := F)) Variants.none () Set.univ := fun t => by
  rw [bigSep_W0, bigSep_W0, defs₀_row]
  exact triple_restated (sound_body W c t) rfl .rfl fun _ => .rfl

theorem hin (c : Dev nD) : Pipeline.ΦA spec0 c ⊢ (dats W c).Φ 0 := by
  rw [show (dats W c).Φ 0 = PhiS W c 0 (Nat.zero_le _) from rfl, PhiS_zero W c 0 _ rfl]

theorem hout (c : Dev nD) : (dats W c).Φ (Fin.last cfg0.N) ⊢ Pipeline.ΦA spec0 c := by
  rw [show (dats W c).Φ (Fin.last cfg0.N) = PhiS W c cfg0.N (Nat.le_refl _) from rfl,
    PhiS_pos W c _ _ (by rw [show cfg0.N = 32 from N_0]; omega), PhiA0_eq]
  iintro ⟨⟨HS0, Hr⟩, Hg⟩
  isplitl [HS0 Hr]
  · isplitl [HS0]; · iexists _; iexact HS0
    iexact Hr
  iexact Hg

end Cert.Kernel.Amax

end
-- ==== Proof.Printed.WgradRun.lean ====
/- What one grid point of the second call (`quant_wgrad`) does to whole buffers: it stores the block's codes, and the block of
   `dw_acc` plus the scaled product of the transposed codes of `x` with the block's codes. -/
module

public import proofs.«01_k».proof.Proof.Printed.AmaxRun
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Wgrad

open Cert.Kernel Cert.Kernel.Gen Cert.Kernel.Amax
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The one index of a one-by-one block. -/
def i00 : S1x1.Idx := fun a => ⟨0, by fin_cases a <;> decide⟩

theorem eq_i00 (j : S1x1.Idx) : j = i00 := by
  funext a; fin_cases a <;> exact Subsingleton.elim (α := Fin 1) _ _

theorem ld_i00 (x : Vec F S1x1 .f32) (inb : ∀ a, (![0, 0] : Fin 2 → Nat) a + S1x1.size a ≤ S1x1.size a) :
    View.ld x (Rect.unit (s := S1x1) ![0, 0] S1x1.size inb) i00 = x i00 :=
  congrFun (View.ld_unit_zero (S := S1x1) hz inb x) i00

set_option maxHeartbeats 1000000 in
/-- A point of the second call. -/
theorem run (c : Dev nD) (i : grid1.Coords) (arg1 : Memref sig .tc .smem S1x1 .f32) (harg1 : arg1.IsWhole) (arg2 : Memref sig .tc .smem S1x1 .f32) (harg2 : arg2.IsWhole) (arg3 : Memref sig .tc .vmem S1280x4096 .fp8e4m3) (harg3 : arg3.IsWhole) (arg4 : Memref sig .tc .vmem S4096x512 .bf16) (harg4 : arg4.IsWhole) (arg5 : Memref sig .tc .vmem S1280x512 .f32) (harg5 : arg5.IsWhole) (arg6 : Memref sig .tc .vmem S1280x512 .f32) (harg6 : arg6.IsWhole) (arg7 : Memref sig .tc .vmem S4096x512 .fp8e5m2) (harg7 : arg7.IsWhole)
    (x0 x1 : Vec F S1x1 .f32) (x2 : Vec F S1280x4096 .fp8e4m3) (x3 : Vec F S4096x512 .bf16) (x4 : Vec F S1280x512 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k1_pay2 x3 (x1 i00) x2 x4 (x0 i00)) ∗ owns (c : Thread nD τ) arg7 fullShare (k1_pay1 x3 (x1 i00))) -∗ K ⟨⟩))
      ⊢ wp frame (wpE (defs₀ (F := F)) Variants.none c none) E (cc1_quant_wgrad i arg1 harg1 arg2 harg2 arg3 harg3 arg4 harg4 arg5 harg5 arg6 harg6 arg7 harg7) K := by
  simp only [cc1_quant_wgrad_eq_skeleton]; unfold cc1_quant_wgrad_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr
    swap; · iexact H5
    ipureintro
    refine (read_writes_whole _ _ hz _ _).trans ?_
    simp only [View.readAt_eq_ld, harg1.read_unread, harg2.read_unread, harg3.read_unread, harg4.read_unread, harg5.read_unread, View.ld_unit_zero (S := S1280x4096) hz, View.ld_unit_zero (S := S4096x512) hz, View.ld_unit_zero (S := S1280x512) hz]
    sl_unfold_words
    simp only [View.readAt_eq_ld, harg1.read_unread, harg2.read_unread]
    rw [eq_i00 (Shape.Idx.first _)]
    exact congrArg₂ (fun a b => k1_pay2 x3 a x2 x4 b) (ld_i00 x1 _) (ld_i00 x0 _)
  iexists _; isplitr
  swap; · iexact H6
  ipureintro
  refine (read_writes_whole _ _ hz _ _).trans ?_
  simp only [View.readAt_eq_ld, harg2.read_unread, harg4.read_unread, View.ld_unit_zero (S := S4096x512) hz]
  sl_unfold_words
  simp only [View.readAt_eq_ld, harg2.read_unread]
  rw [eq_i00 (Shape.Idx.first _)]
  exact congrArg (k1_pay1 x3) (ld_i00 x1 _)

end Cert.Kernel.Wgrad

end
-- ==== Proof.Printed.WgradBody.lean ====
/- The second call's proof data. The last of its blocks of columns hangs over the arrays' edge: what is fetched of it is filled up
   with anything, and so what the body computes there is not named but held to a relation (`Rl`): at every point each output block is
   the body's function of blocks that agree with the arrays inside them. -/
module

public import proofs.«01_k».proof.Proof.Printed.WgradRun
public import Idealize.ShloMosaic.Lib.Pipeline.DatRel

@[expose] public section

set_option maxRecDepth 16384

noncomputable section

namespace Cert.Kernel.Wgrad

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ (UR sig nD τ) ℕ

variable (W : Dev nD → Valuation τ sig (Elt F))

abbrev ms1_0 (t : Fin cfg1.N) : Memref sig .tc .smem S1x1 .f32 := win1_0.stage (cfg1.slots t 0)
abbrev ms1_1 (t : Fin cfg1.N) : Memref sig .tc .smem S1x1 .f32 := win1_1.stage (cfg1.slots t 1)
abbrev ms1_2 (t : Fin cfg1.N) : Memref sig .tc .vmem S1280x4096 .fp8e4m3 := win1_2.stage (cfg1.slots t 2)
abbrev ms1_3 (t : Fin cfg1.N) : Memref sig .tc .vmem S4096x512 .bf16 := win1_3.stage (cfg1.slots t 3)
abbrev ms1_4 (t : Fin cfg1.N) : Memref sig .tc .vmem S1280x512 .f32 := win1_4.stage (cfg1.slots t 4)
abbrev ms1_5 (t : Fin cfg1.N) : Memref sig .tc .vmem S1280x512 .f32 := win1_5.stage (cfg1.slots t 5)
abbrev ms1_6 (t : Fin cfg1.N) : Memref sig .tc .vmem S4096x512 .fp8e5m2 := win1_6.stage (cfg1.slots t 6)

/-- Window `w`'s block at point `t` (its part inside the array), read off the array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The block of `dy` and of `dw_acc` at point `t`, filled up with `d` outside the array. -/
def dyBlk (c : Dev nD) (t : Fin cfg1.N) (d : Vec F S4096x512 .bf16) : Vec F S4096x512 .bf16 :=
  (cfg1.win 3).fill (cfg1.grid.coords t) d (iblk W c 3 t)
def accBlk (c : Dev nD) (t : Fin cfg1.N) (d : Vec F S1280x512 .f32) : Vec F S1280x512 .f32 :=
  (cfg1.win 4).fill (cfg1.grid.coords t) d (iblk W c 4 t)

/-- The combined scale, the inverse scale and the transposed codes of `x` as the call finds them. -/
def sBlk (c : Dev nD) (t : Fin cfg1.N) : Vec F S1x1 .f32 := iblk W c 0 t
def invBlk (c : Dev nD) (t : Fin cfg1.N) : Vec F S1x1 .f32 := iblk W c 1 t
def xtBlk (c : Dev nD) (t : Fin cfg1.N) : Vec F S1280x4096 .fp8e4m3 := iblk W c 2 t

/-- What the body may leave in the output blocks. -/
def RlDw (c : Dev nD) (t : Fin cfg1.N) (X : Vec F S1280x512 .f32) : Prop :=
  ∃ d3 d4, X = k1_pay2 (dyBlk W c t d3) (invBlk W c t i00) (xtBlk W c t) (accBlk W c t d4) (sBlk W c t i00)
def RlCodes (c : Dev nD) (t : Fin cfg1.N) (X : Vec F S4096x512 .fp8e5m2) : Prop :=
  ∃ d3, X = k1_pay1 (dyBlk W c t d3) (invBlk W c t i00)

/-- The windows held to a relation: the two outputs. -/
def marked : Fin cfg1.W → Bool
  | ⟨5, _⟩ => true | ⟨6, _⟩ => true | _ => false

def Rl (c : Dev nD) : (w : Fin cfg1.W) → Fin cfg1.N → ((cfg1.win w).block.Idx → Elt F (cfg1.win w).elt) → Prop
  | ⟨5, _⟩ => fun t X => RlDw W c t X
  | ⟨6, _⟩ => fun t X => RlCodes W c t X
  | _ => fun _ _ => True

/-- Contents nothing is read of. -/
def junkDy : Vec F S4096x512 .bf16 := fun _ => Scalar.ofBits .bf16 0#16
def junkAcc : Vec F S1280x512 .f32 := fun _ => Scalar.ofBits .f32 0#32

/-- The proof data of the second call; nothing is read of what it names in windows 5 and 6. -/
def dats (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => dyBlk W c t junkDy
    | ⟨4, _⟩ => accBlk W c t junkAcc
    | ⟨5, _⟩ => junkAcc
    | ⟨6, _⟩ => k1_pay1 junkDy (Scalar.ofBits .f32 0#32)
  Φ _ := Pipeline.ΦA spec1 c
  q _ := fullShare
  owed _ := 0

/-- The same, the outputs held to `Rl`. -/
abbrev rdats (c : Dev nD) : RDat τ (Elt F) Unit ℕ (UR sig nD τ) ℕ cfg1 c := (dats W c).toRRel marked (Rl W c)

theorem A_eq (c : Dev nD) (w : Fin cfg1.W) : (dats W c).A w = W c (Proc.devRef .tc (Pipeline.arrRef spec1 w)) := by
  dsimp only [dats]

theorem after1_0 (c : Dev nD) (t : Fin cfg1.N) : (dats W c).after 0 t = iblk W c 0 t := by dsimp only [dats]
theorem after1_1 (c : Dev nD) (t : Fin cfg1.N) : (dats W c).after 1 t = iblk W c 1 t := by dsimp only [dats]
theorem after1_2 (c : Dev nD) (t : Fin cfg1.N) : (dats W c).after 2 t = iblk W c 2 t := by dsimp only [dats]
theorem after1_3 (c : Dev nD) (t : Fin cfg1.N) : (dats W c).after 3 t = dyBlk W c t junkDy := by dsimp only [dats]
theorem after1_4 (c : Dev nD) (t : Fin cfg1.N) : (dats W c).after 4 t = accBlk W c t junkAcc := by dsimp only [dats]

theorem before1_0 (c : Dev nD) (t : Fin cfg1.N) (d) : (dats W c).before 0 t d = sBlk W c t :=
  ((dats W c).before_in_eq_fetched 0 rfl (fun _ => rfl) (fun _ _ _ => rfl) (fun t => by rw [after1_0]; unfold Dat.blockOf iblk; rw [A_eq]) t d).trans
    (by unfold Dat.fetched Dat.blockOf sBlk iblk; rw [A_eq]; try rfl)
theorem before1_1 (c : Dev nD) (t : Fin cfg1.N) (d) : (dats W c).before 1 t d = invBlk W c t :=
  ((dats W c).before_in_eq_fetched 1 rfl (fun _ => rfl) (fun _ _ _ => rfl) (fun t => by rw [after1_1]; unfold Dat.blockOf iblk; rw [A_eq]) t d).trans
    (by unfold Dat.fetched Dat.blockOf invBlk iblk; rw [A_eq]; try rfl)
theorem before1_2 (c : Dev nD) (t : Fin cfg1.N) (d) : (dats W c).before 2 t d = xtBlk W c t :=
  ((dats W c).before_in_eq_fetched 2 rfl (fun _ => rfl) (fun _ _ _ => rfl) (fun t => by rw [after1_2]; unfold Dat.blockOf iblk; rw [A_eq]) t d).trans
    (by unfold Dat.fetched Dat.blockOf xtBlk iblk; rw [A_eq]; try rfl)
theorem before1_3 (c : Dev nD) (t : Fin cfg1.N) (d) : (dats W c).before 3 t d = dyBlk W c t d := by
  unfold Dat.before; rw [if_pos (fetch1_3 t)]; unfold Dat.fetched Dat.blockOf dyBlk iblk; rw [A_eq]
theorem before1_4 (c : Dev nD) (t : Fin cfg1.N) (d) : (dats W c).before 4 t d = accBlk W c t d := by
  unfold Dat.before; rw [if_pos (fetch1_4 t)]; unfold Dat.fetched Dat.blockOf accBlk iblk; rw [A_eq]

/-- What the body is called with at point `t`, -/
def bodyPre (c : Dev nD) (t : Fin cfg1.N) : sProp 𝕄 :=
  iprop((dats W c).Φ t.castSucc ∗ (dats W c).owesAt () t.castSucc
    ∗ (∃ d, owns (c : Thread nD τ) (ms1_0 t) fullShare ((dats W c).before 0 t d))
    ∗ (∃ d, owns (c : Thread nD τ) (ms1_1 t) fullShare ((dats W c).before 1 t d))
    ∗ (∃ d, owns (c : Thread nD τ) (ms1_2 t) fullShare ((dats W c).before 2 t d))
    ∗ (∃ d, owns (c : Thread nD τ) (ms1_3 t) fullShare ((dats W c).before 3 t d))
    ∗ (∃ d, owns (c : Thread nD τ) (ms1_4 t) fullShare ((dats W c).before 4 t d))
    ∗ (∃ Y, ⌜(rdats W c).Finds 5 t Y⌝ ∗ owns (c : Thread nD τ) (ms1_5 t) fullShare Y)
    ∗ (∃ Y, ⌜(rdats W c).Finds 6 t Y⌝ ∗ owns (c : Thread nD τ) (ms1_6 t) fullShare Y))

/-- and what it returns. -/
def bodyPost (c : Dev nD) (t : Fin cfg1.N) : sProp 𝕄 :=
  iprop((dats W c).Φ t.succ ∗ (dats W c).owesAt () t.succ
    ∗ owns (c : Thread nD τ) (ms1_0 t) fullShare (sBlk W c t)
    ∗ owns (c : Thread nD τ) (ms1_1 t) fullShare (invBlk W c t)
    ∗ owns (c : Thread nD τ) (ms1_2 t) fullShare (xtBlk W c t)
    ∗ (∃ d, owns (c : Thread nD τ) (ms1_3 t) fullShare (dyBlk W c t d))
    ∗ (∃ d, owns (c : Thread nD τ) (ms1_4 t) fullShare (accBlk W c t d))
    ∗ (∃ X, ⌜RlDw W c t X⌝ ∗ owns (c : Thread nD τ) (ms1_5 t) fullShare X)
    ∗ (∃ X, ⌜RlCodes W c t X⌝ ∗ owns (c : Thread nD τ) (ms1_6 t) fullShare X))

set_option maxHeartbeats 1600000 in
/-- The body at any point. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before1_0, before1_1, before1_2, before1_3, before1_4]
  rw [show (dats W c).owesAt () t.succ = (dats W c).owesAt () t.castSucc from rfl]
  rw [show (dats W c).Φ t.succ = (dats W c).Φ t.castSucc from rfl]
  iintro ⟨HΦ, Ho, ⟨%d0, H0⟩, ⟨%d1, H1⟩, ⟨%d2, H2⟩, ⟨%d3, H3⟩, ⟨%d4, H4⟩, ⟨%Y5, -, H5⟩, ⟨%Y6, -, H6⟩⟩
  iapply (run c (grid1.coords t) _ _ _ _ _ _ _ _ _ _ _ _ _ _ (sBlk W c t) (invBlk W c t) (xtBlk W c t) (dyBlk W c t d3) (accBlk W c t d4) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexists _; iexact H3
  isplitl [H4]; · iexists _; iexact H4
  isplitl [H5]
  · iexists _; isplitr
    swap; · iexact H5
    ipureintro; exact ⟨d3, d4, rfl⟩
  iexists _; isplitr
  swap; · iexact H6
  ipureintro; exact ⟨d3, rfl⟩

theorem defs₀_row (t : Fin cfg1.N) :
    defs₀ (F := F) .tc cfg1.body (cfg1.bodyArgs t (cfg1.slots t)) = bodyAt1 t := by
  unfold defs₀; rw [Defs.onTc_tc]

theorem dyBlk_cut (c : Dev nD) (t : Fin cfg1.N) (d) :
    (cfg1.win 3).fill (cfg1.grid.coords t) d ((cfg1.win 3).cut (cfg1.grid.coords t) ((dats W c).after 3 t)) = dyBlk W c t d := by
  rw [after1_3]; unfold dyBlk; rw [Window.cut_fill]
theorem accBlk_cut (c : Dev nD) (t : Fin cfg1.N) (d) :
    (cfg1.win 4).fill (cfg1.grid.coords t) d ((cfg1.win 4).cut (cfg1.grid.coords t) ((dats W c).after 4 t)) = accBlk W c t d := by
  rw [after1_4]; unfold accBlk; rw [Window.cut_fill]

/-- The body obligation of the second call. -/
theorem body_obligation (c : Dev nD) : BodyObligationRel (dats (F := F) W c) (defs₀ (F := F)) Variants.none () Set.univ marked (Rl W c) := fun t => by
  rw [bigSep_W1, bigSep_W1, defs₀_row]
  refine triple_restated (sound_body W c t) rfl .rfl fun _ => ?_
  unfold bodyPost
  simp only [← dyBlk_cut, ← accBlk_cut]
  unfold sBlk invBlk xtBlk
  rw [← after1_0, ← after1_1, ← after1_2]
  exact .rfl

end Cert.Kernel.Wgrad

end
-- ==== Proof.Printed.Run.lean ====
/- The whole run, at any float values. @main is: the host reshapes, the first call, the scalar product of the scales, the second call.
   The first call's outputs are named (`V2`); of the second call's outputs is known what `RDat.ArrAt` says of them: every block written
   back is one that `Wgrad.Rl` allows. `run` says how every final memory looks; the frame claims and the value claim are read off it. -/
module

public import proofs.«01_k».proof.Proof.Printed.AmaxBody
public import proofs.«01_k».proof.Proof.Printed.WgradBody
public import proofs.«01_k».proof.Proof.Gen.Kernel.Regions
public import Idealize.ShloMosaic.Lib.Pipeline.RegionsLoop
public import Idealize.ShloMosaic.Lib.Pipeline.RegionArraysF

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- What the first call leaves in its outputs: the scale, its inverse, the transposed codes of `x`. -/
def scaleArr (c : Dev nD) : Buf (Elt F) ((c : Thread nD τ).loc main_v2_0) := (Amax.dats (V1 m) c).arrAt 2 cfg0.N
def invArr (c : Dev nD) : Buf (Elt F) ((c : Thread nD τ).loc main_v2_1) := (Amax.dats (V1 m) c).arrAt 3 cfg0.N
def xtArr (c : Dev nD) : Buf (Elt F) ((c : Thread nD τ).loc main_v2_2) := (Amax.dats (V1 m) c).arrAt 4 cfg0.N

/-- The buffers after the first call, -/
def V2 (c : Dev nD) : Valuation τ sig (Elt F) :=
  Function.update (Function.update (Function.update (V1 m c) main_v2_0 (scaleArr m c)) main_v2_1 (invArr m c)) main_v2_2 (xtArr m c)
/-- after the host operations between the calls, -/
def V3 (c : Dev nD) : Valuation τ sig (Elt F) := StableHlo.after hostOps1 (V2 m c)
/-- and after the second call, if it leaves `G5` and `G6`. -/
def V4 (c : Dev nD) (G5 : Buf (Elt F) ((c : Thread nD τ).loc main_v6_0)) (G6 : Buf (Elt F) ((c : Thread nD τ).loc main_v6_1)) :
    Valuation τ sig (Elt F) :=
  Function.update (Function.update (V3 m c) main_v6_0 G5) main_v6_1 G6

theorem V2_of (c : Dev nD) (r : Ref sig .tc) (h : r ∉ ([main_v2_0, main_v2_1, main_v2_2] : List (Ref sig .tc))) : V2 m c r = V1 m c r := by
  simp only [V2, Function.update_of_ne (StableHlo.devRef_ne_of_ne (List.ne_of_not_mem_cons h) : (Proc.devRef .tc r : DevRef τ sig) ≠ Proc.devRef .tc main_v2_0), Function.update_of_ne (StableHlo.devRef_ne_of_ne (List.ne_of_not_mem_cons (List.not_mem_of_not_mem_cons h)) : (Proc.devRef .tc r : DevRef τ sig) ≠ Proc.devRef .tc main_v2_1), Function.update_of_ne (StableHlo.devRef_ne_of_ne (List.ne_of_not_mem_cons (List.not_mem_of_not_mem_cons (List.not_mem_of_not_mem_cons h))) : (Proc.devRef .tc r : DevRef τ sig) ≠ Proc.devRef .tc main_v2_2)]
theorem V2_xt (c : Dev nD) : V2 m c main_v2_2 = xtArr m c := by
  unfold V2; exact Function.update_self _ _ _
theorem V2_inv (c : Dev nD) : V2 m c main_v2_1 = invArr m c := by
  unfold V2
  rw [Function.update_of_ne (StableHlo.devRef_ne_of_ne (by decide) : (Proc.devRef .tc main_v2_1 : DevRef τ sig) ≠ Proc.devRef .tc main_v2_2)]
  exact Function.update_self _ _ _
theorem V2_scale (c : Dev nD) : V2 m c main_v2_0 = scaleArr m c := by
  unfold V2
  rw [Function.update_of_ne (StableHlo.devRef_ne_of_ne (by decide) : (Proc.devRef .tc main_v2_0 : DevRef τ sig) ≠ Proc.devRef .tc main_v2_2),
    Function.update_of_ne (StableHlo.devRef_ne_of_ne (by decide) : (Proc.devRef .tc main_v2_0 : DevRef τ sig) ≠ Proc.devRef .tc main_v2_1)]
  exact Function.update_self _ _ _
theorem V3_of (c : Dev nD) (r : Ref sig .tc) (h : r ∉ hostOps1_W) : V3 m c r = V2 m c r :=
  StableHlo.after_of_writes_sub hostOps1 _ hostOps1_writes h
theorem V4_of (c : Dev nD) (G5) (G6) (r : Ref sig .tc) (h : r ∉ ([main_v6_0, main_v6_1] : List (Ref sig .tc))) : V4 m c G5 G6 r = V3 m c r := by
  simp only [V4, Function.update_of_ne (StableHlo.devRef_ne_of_ne (List.ne_of_not_mem_cons h) : (Proc.devRef .tc r : DevRef τ sig) ≠ Proc.devRef .tc main_v6_0), Function.update_of_ne (StableHlo.devRef_ne_of_ne (List.ne_of_not_mem_cons (List.not_mem_of_not_mem_cons h)) : (Proc.devRef .tc r : DevRef τ sig) ≠ Proc.devRef .tc main_v6_1)]
theorem V4_codes (c : Dev nD) (G5) (G6) : V4 m c G5 G6 main_v6_1 = G6 := by
  unfold V4; exact Function.update_self _ _ _
theorem V4_dw (c : Dev nD) (G5) (G6) : V4 m c G5 G6 main_v6_0 = G5 := by
  unfold V4
  rw [Function.update_of_ne (StableHlo.devRef_ne_of_ne (by decide) : (Proc.devRef .tc main_v6_0 : DevRef τ sig) ≠ Proc.devRef .tc main_v6_1)]
  exact Function.update_self _ _ _

/-- What no item writes ends as launched. -/
theorem V4_arg (c : Dev nD) (G5) (G6) (r : Ref sig .tc) (h4 : r ∉ ([main_v6_0, main_v6_1] : List (Ref sig .tc))) (h3 : r ∉ hostOps1_W)
    (h2 : r ∉ ([main_v2_0, main_v2_1, main_v2_2] : List (Ref sig .tc))) (h1 : r ∉ hostOps0_W) : V4 m c G5 G6 r = m ((c : Thread nD τ).loc r) :=
  (V4_of m c G5 G6 r h4).trans <| (V3_of m c r h3).trans <| (V2_of m c r h2).trans <| (V1_of m c r h1).trans rfl

theorem V4_scale (c : Dev nD) (G5) (G6) : V4 m c G5 G6 main_v2_0 = scaleArr m c :=
  (V4_of m c G5 G6 main_v2_0 (by decide)).trans <| (V3_of m c main_v2_0 (by decide)).trans (V2_scale m c)

/-! ## The calls' proof data -/

/-- The proof data of the two calls, -/
def pdats : (p : Fin 2) → (c : Dev nD) → Dat τ (Elt F) Unit ℕ (UR sig nD τ) ℕ (cfgs p) c
  | ⟨0, _⟩ => Amax.dats (V1 m)
  | ⟨1, _⟩ => Wgrad.dats (V3 m)
/-- read relationally, the second call's outputs held to `Wgrad.Rl`. -/
def rdats : (p : Fin 2) → (c : Dev nD) → RDat τ (Elt F) Unit ℕ (UR sig nD τ) ℕ (cfgs p) c
  | ⟨0, _⟩ => fun c => (Amax.dats (V1 m) c).toR
  | ⟨1, _⟩ => Wgrad.rdats (V3 m)

abbrev L : GSem nD τ sig → Finset Unit := fun _ => ∅
abbrev lv : GSem nD τ sig → Unit → ℕ := fun _ _ => 0

/-- What rides beside the buffers: the generator register and the core's `owes`. -/
abbrev R (c : Dev nD) : sProp 𝕄 := iprop((∃ r, prngReg c r) ∗ ∃ Wd, owes (c : Thread nD τ) (0 : CellTallies nD τ sig Unit) Wd)

/-- The unscoped buffers at a valuation. -/
abbrev at_ (c : Dev nD) (V : Valuation τ sig (Elt F)) : sProp 𝕄 := StableHlo.held (c : Thread nD τ) (Pipeline.ucRefs τ sig) V

theorem share0 (c : Dev nD) (w) : (pdats m 0 c).share w = fullShare := (pdats m 0 c).share_full (fun _ => rfl) w
theorem share1 (c : Dev nD) (w) : (pdats m 1 c).share w = fullShare := (pdats m 1 c).share_full (fun _ => rfl) w

/-- The second call's arrays after it: some contents that the relational data allow. -/
theorem arraysAt1 (c : Dev nD) : ((rdats m 1 c).arraysAt cfg1.N : sProp 𝕄)
    ⊢ iprop(∃ A : (w : Fin cfg1.W) → Buf (Elt F) ((cfg1.win w).arr.view.loc (c.tc : Thread nD τ)),
      ⌜∀ w, (Wgrad.rdats (V3 m) c).ArrAt w cfg1.N (A w)⌝ ∗ (pdats m 1 c).arrays A) := by
  show ((Wgrad.rdats (V3 m) c).arraysAt cfg1.N : sProp 𝕄) ⊢ iprop(∃ A : (w : Fin cfg1.W) → Buf (Elt F) ((cfg1.win w).arr.view.loc (c.tc : Thread nD τ)),
      ⌜∀ w, (Wgrad.rdats (V3 m) c).ArrAt w cfg1.N (A w)⌝ ∗ (Wgrad.dats (V3 m) c).arrays A)
  unfold RDat.arraysAt Dat.arrays
  refine (BI.bigSep_exists_pi Finset.univ _).trans ?_
  iintro ⟨%A, H⟩
  ihave H' := (BI.bigSep_pure_sep Finset.univ (fun w => (Wgrad.rdats (V3 m) c).ArrAt w cfg1.N (A w)) _) $$ H
  icases H' with ⟨%hA, H⟩
  iexists A
  isplitr
  · ipureintro; exact fun w => hA w (Finset.mem_univ w)
  iexact H

/-! ## The calls as segments -/

set_option backward.isDefEq.respectTransparency.types false in
/-- The first call, entered from the buffers at `V1`, left at `V2`. -/
def reg0 : RDat.RegionSeg (pcfgs (F := F)) adm (rdats m) () defs₀ Variants.none L lv 0 where
  win := launch0.win.to₀
  block_pos := launch0.block_pos
  stage_whole := launch0.stage_whole
  K := PEmpty
  osem k := k.elim
  ho := Pipeline.OwnSemFacts.none _
  hbody c := (Amax.body_obligation (V1 m) c).toR
  hwaits := RDat.hwaits_of_owed_zero _ _ _ _ L lv 0 fun _ _ => rfl
  pre c := iprop(at_ c (V1 m c) ∗ R c)
  post c := iprop(at_ c (V2 m c) ∗ R c)
  X c := iprop(∃ r, prngReg c r)
  Y c := iprop(∃ r, prngReg c r)
  Z c := Pipeline.unscopedRest (Ix := Unit) (Name := ℕ) (U := UR sig nD τ) (Lvl := ℕ) spec0 c (fun b => V1 m c b)
  hentry c := by
    show _ ⊢ |={Set.univ}=> iprop((pdats m 0 c).arrays ((pdats m 0 c).arrAt · 0) ∗ Pipeline.prefHeld (pcfgs (F := F) 0).pre c (fun _ => fullShare) (adm 0).1
        ∗ (pdats m 0 c).owesAt () 0 ∗ _ ∗ _)
    rw [Pipeline.ownSems0_none, show at_ c (V1 m c) = unscopedBufs c (fun b => V1 m c b) from (Pipeline.unscopedBufs_held c _).symm]
    have hsplit := Pipeline.arrays_of_unscopedBufs (p := 0) (pcfgs (F := F)) adm (pdats m) launch0.win launch0.arr_whole c
      (share0 m c) (fun b => V1 m c b) fun w => Amax.A_eq (V1 m) c w
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Dat.owesAt Pipeline.owesWithin
      icases HO with ⟨%Wd, HO⟩; iexists Wd; isplitr; · ipureintro; exact fun _ _ => Or.inl trivial
      iexact HO
    isplitl [Hp] <;> iassumption
  hin c := (show _ ⊢ Pipeline.ΦA spec0 c from by
    unfold Pipeline.ΦA
    iintro ⟨Hp, -, Hr⟩
    isplitl [Hr] <;> iassumption).trans (Amax.hin (V1 m) c)
  hout c := (Amax.hout (V1 m) c).trans (by
    rw [Pipeline.ownSems0_none]
    unfold Pipeline.ΦA
    iintro ⟨Hr, Hp⟩
    isplitl [Hp]; · iexact Hp
    isplitr; · iempintro
    iexact Hr)
  hexit c := by
    rw [show at_ c (V2 m c) = unscopedBufs c (fun b => V2 m c b) from (Pipeline.unscopedBufs_held c _).symm]
    have hjoin := Pipeline.unscopedBufs_of_arrays (p := 0) (pcfgs (F := F)) adm (Ix := Unit) (Name := ℕ) (U := UR sig nD τ) (Lvl := ℕ) launch0.win launch0.arr_whole c
      (pdats m) (share0 m c) (fun b => V1 m c b) (fun b => V2 m c b) ((Amax.dats (V1 m) c).arrAt · cfg0.N)
      (fun w => by
        fin_cases w
        · exact ((Amax.dats (V1 m) c).arrAt_in 0 rfl _).trans (V2_of m c main_v1 (by decide)).symm
        · exact ((Amax.dats (V1 m) c).arrAt_in 1 rfl _).trans (V2_of m c main_v0 (by decide)).symm
        · exact (V2_scale m c).symm
        · exact (V2_inv m c).symm
        · exact (V2_xt m c).symm)
      (fun b hb => V2_of m c b fun h => hb (by
        simp only [List.mem_cons, List.not_mem_nil, _root_.or_false] at h
        rcases h with rfl | rfl | rfl
        · exact Finset.mem_image.mpr ⟨2, Finset.mem_univ _, rfl⟩
        · exact Finset.mem_image.mpr ⟨3, Finset.mem_univ _, rfl⟩
        · exact Finset.mem_image.mpr ⟨4, Finset.mem_univ _, rfl⟩))
    have hpost : ((rdats m 0 c).arraysAt cfg0.N : sProp 𝕄) ⊢ (pdats m 0 c).arrays ((Amax.dats (V1 m) c).arrAt · cfg0.N) :=
      (Amax.dats (V1 m) c).toR_arraysAt_post cfg0.N
    iintro ⟨Ha, HO, Hp, Hrest⟩
    ihave Ha := hpost $$ Ha
    imodintro
    isplitl [Ha Hrest]
    · iapply hjoin; isplitl [Ha] <;> iassumption
    isplitl [Hp]; · iexact Hp
    unfold Pipeline.RDat.owesAt Pipeline.owesWithin
    icases HO with ⟨%Wd, -, HO⟩; iexists Wd; iexact HO

/-- What is known of the second call's outputs. -/
def Left (c : Dev nD) (G5 : Buf (Elt F) ((c : Thread nD τ).loc main_v6_0)) (G6 : Buf (Elt F) ((c : Thread nD τ).loc main_v6_1)) : Prop :=
  (Wgrad.rdats (V3 m) c).ArrAt 5 cfg1.N G5 ∧ (Wgrad.rdats (V3 m) c).ArrAt 6 cfg1.N G6

/-- An input array of the second call ends as the call found it. -/
theorem in1 (c : Dev nD) (w : Fin cfg1.W) (hw : (cfg1.win w).isOut = false) (G) (h : (Wgrad.rdats (V3 m) c).ArrAt w cfg1.N G) :
    G = V3 m c (Proc.devRef .tc (Pipeline.arrRef spec1 w)) :=
  by rw [(Wgrad.rdats (V3 m) c).ArrAt_in w hw] at h; exact h.trans (Wgrad.A_eq (V3 m) c w)

set_option backward.isDefEq.respectTransparency.types false in
/-- The second call, entered from the buffers at `V3`, left at `V4` of outputs that `Left` allows. -/
def reg1 : RDat.RegionSeg (pcfgs (F := F)) adm (rdats m) () defs₀ Variants.none L lv 1 where
  win := launch1.win.to₀
  block_pos := launch1.block_pos
  stage_whole := launch1.stage_whole
  K := PEmpty
  osem k := k.elim
  ho := Pipeline.OwnSemFacts.none _
  hbody c := (Wgrad.body_obligation (V3 m) c).toRRel
  hwaits := RDat.hwaits_of_owed_zero _ _ _ _ L lv 1 fun _ _ => rfl
  pre c := iprop(at_ c (V3 m c) ∗ R c)
  post c := iprop((∃ G5 G6, ⌜Left m c G5 G6⌝ ∗ at_ c (V4 m c G5 G6)) ∗ ∃ Wd, owes (c : Thread nD τ) (0 : CellTallies nD τ sig Unit) Wd)
  X c := iprop(∃ r, prngReg c r)
  Y c := iprop(∃ r, prngReg c r)
  Z c := Pipeline.unscopedRest (Ix := Unit) (Name := ℕ) (U := UR sig nD τ) (Lvl := ℕ) spec1 c (fun b => V3 m c b)
  hentry c := by
    show _ ⊢ |={Set.univ}=> iprop((pdats m 1 c).arrays ((pdats m 1 c).arrAt · 0) ∗ Pipeline.prefHeld (pcfgs (F := F) 1).pre c (fun _ => fullShare) (adm 1).1
        ∗ (pdats m 1 c).owesAt () 0 ∗ _ ∗ _)
    rw [Pipeline.ownSems0_none, show at_ c (V3 m c) = unscopedBufs c (fun b => V3 m c b) from (Pipeline.unscopedBufs_held c _).symm]
    have hsplit := Pipeline.arrays_of_unscopedBufs (p := 1) (pcfgs (F := F)) adm (pdats m) launch1.win launch1.arr_whole c
      (share1 m c) (fun b => V3 m c b) fun w => Wgrad.A_eq (V3 m) c w
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Dat.owesAt Pipeline.owesWithin
      icases HO with ⟨%Wd, HO⟩; iexists Wd; isplitr; · ipureintro; exact fun _ _ => Or.inl trivial
      iexact HO
    isplitl [Hp] <;> iassumption
  hin c := (show _ ⊢ Pipeline.ΦA spec1 c from by
    unfold Pipeline.ΦA
    iintro ⟨Hp, -, Hr⟩
    isplitl [Hr] <;> iassumption).trans .rfl
  hout c := (show Pipeline.ΦA spec1 c ⊢ _ from by
    rw [Pipeline.ownSems0_none]
    unfold Pipeline.ΦA
    iintro ⟨Hr, Hp⟩
    isplitl [Hp]; · iexact Hp
    isplitr; · iempintro
    iexact Hr)
  hexit c := by
    iintro ⟨Ha, HO, -, Hrest⟩
    ihave Ha := (arraysAt1 m c) $$ Ha
    icases Ha with ⟨%A, %hA, Ha⟩
    have hjoin := Pipeline.unscopedBufs_of_arrays (p := 1) (pcfgs (F := F)) adm (Ix := Unit) (Name := ℕ) (U := UR sig nD τ) (Lvl := ℕ) launch1.win launch1.arr_whole c
      (pdats m) (share1 m c) (fun b => V3 m c b) (fun b => V4 m c (A 5) (A 6) b) A
      (fun w => by
        fin_cases w
        · exact (in1 m c 0 rfl _ (hA 0)).trans (V4_of m c _ _ main_v5 (by decide)).symm
        · exact (in1 m c 1 rfl _ (hA 1)).trans (V4_of m c _ _ main_v2_1 (by decide)).symm
        · exact (in1 m c 2 rfl _ (hA 2)).trans (V4_of m c _ _ main_v2_2 (by decide)).symm
        · exact (in1 m c 3 rfl _ (hA 3)).trans (V4_of m c _ _ main_v1 (by decide)).symm
        · exact (in1 m c 4 rfl _ (hA 4)).trans (V4_of m c _ _ main_arg3 (by decide)).symm
        · exact (V4_dw m c _ _).symm
        · exact (V4_codes m c _ _).symm)
      (fun b hb => V4_of m c _ _ b fun h => hb (by
        simp only [List.mem_cons, List.not_mem_nil, _root_.or_false] at h
        rcases h with rfl | rfl
        · exact Finset.mem_image.mpr ⟨5, Finset.mem_univ _, rfl⟩
        · exact Finset.mem_image.mpr ⟨6, Finset.mem_univ _, rfl⟩))
    imodintro
    isplitl [Ha Hrest]
    · iexists (A 5), (A 6)
      isplitr; · ipureintro; exact ⟨hA 5, hA 6⟩
      rw [show at_ c (V4 m c (A 5) (A 6)) = unscopedBufs c (fun b => V4 m c (A 5) (A 6) b) from (Pipeline.unscopedBufs_held c _).symm]
      iapply hjoin; isplitl [Ha] <;> iassumption
    unfold Pipeline.RDat.owesAt Pipeline.owesWithin
    icases HO with ⟨%Wd, -, HO⟩; iexists Wd; iexact HO

/-! ## The run -/

/-- The host operations before and between the calls. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R
def host1 : HostSeg (Ix := Unit) (Name := ℕ) (U := UR sig nD τ) (Lvl := ℕ) (pcfgs (F := F)) defs₀ Variants.none L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V2 m) R

/-- @main as segments, the same on every core. -/
abbrev segs (_ : Dev nD) : List (RDat.Seg (pcfgs (F := F)) adm (rdats m) () defs₀ Variants.none L lv) :=
  [.host (host0 m), .region (reg0 m), .host (host1 m), .region (reg1 m)]

/-- What is known of a final memory on core `c`. -/
def Final (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3))
  ∧ Left m c (s.mem ((c.tc : Thread nD τ).loc main_v6_0)) (s.mem ((c.tc : Thread nD τ).loc main_v6_1))
  ∧ s.mem ((c.tc : Thread nD τ).loc main_v2_0) = scaleArr m c

theorem uc_mem (r : Ref sig .tc) (h : ¬ (Proc.devRef (τ := τ) .tc r).isScoped) : Proc.devRef (τ := τ) .tc r ∈ Pipeline.ucRefs τ sig :=
  Finset.mem_filter.mpr ⟨StableHlo.devRef_mem_tcRefs r, h⟩

/-- The end: the buffers read off the last valuation. -/
theorem hfin (c : Dev nD) (s' : Phys nD τ sig (Elt F)) :
    iprop((∃ G5 G6, ⌜Left m c G5 G6⌝ ∗ at_ c (V4 m c G5 G6)) ∗ SI s') ⊢ (|={Set.univ}=> iprop(⌜Final m c s'.mem⌝ ∗ SI s') : sProp 𝕄) := by
  unfold at_ StableHlo.held
  iintro ⟨⟨%G5, %G6, %hL, Hh⟩, HSI⟩
  ihave Hr := (pointsTo_read_all (Pipeline.ucRefs τ sig) (fun b => ((c : Thread nD τ).1, b)) (V4 m c G5 G6) s') $$ [Hh HSI]
  · isplitl [Hh] <;> iassumption
  icases Hr with ⟨%h, HSI⟩
  imodintro
  isplitr
  · ipureintro
    have h5 : s'.mem.mem ((c.tc : Thread nD τ).loc main_v6_0) = G5 := (h _ (uc_mem main_v6_0 (by decide))).trans (V4_dw m c G5 G6)
    have h6 : s'.mem.mem ((c.tc : Thread nD τ).loc main_v6_1) = G6 := (h _ (uc_mem main_v6_1 (by decide))).trans (V4_codes m c G5 G6)
    refine ⟨⟨(h _ (uc_mem main_arg0 (by decide))).trans (V4_arg m c G5 G6 main_arg0 (by decide) (by decide) (by decide) (by decide)),
      (h _ (uc_mem main_arg1 (by decide))).trans (V4_arg m c G5 G6 main_arg1 (by decide) (by decide) (by decide) (by decide)),
      (h _ (uc_mem main_arg2 (by decide))).trans (V4_arg m c G5 G6 main_arg2 (by decide) (by decide) (by decide) (by decide)),
      (h _ (uc_mem main_arg3 (by decide))).trans (V4_arg m c G5 G6 main_arg3 (by decide) (by decide) (by decide) (by decide))⟩, ?_,
      (h _ (uc_mem main_v2_0 (by decide))).trans (V4_scale m c G5 G6)⟩
    rw [h5, h6]; exact hL
  · iexact HSI

set_option backward.isDefEq.respectTransparency.types false in
/-- Every weakly fair execution of @main from `m` with zero counters terminates, and every final state is as `Final` says on
    every core, every semaphore counter at zero. -/
theorem run : θ_run defs (onTc (τ := τ) (main (F := F))) ⟨m, fun _ => 0, ρ⟩ (fun r => (∀ c : Dev nD, Final m c r.2) ∧ r.2.sem = fun _ => 0) := by
  refine RDat.θ_run_regions_kit_dev_sems (pcfgs (F := F)) adm (rdats m) () cellOf_inj emb₁ defs₀ Variants.none L lv m ρ main (segs m)
    (fun c Q => by
      rewrite [main_chain c, RDat.Seg.run_eq_chain,
        show (segs m c).map RDat.Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(at_ c (V0 m c) ∗ R c))
    (Tₙ := fun c => iprop(∃ G5 G6, ⌜Left m c G5 G6⌝ ∗ at_ c (V4 m c G5 G6)))
    (hch := fun c => ⟨.rfl, .rfl, .rfl, .rfl, .rfl⟩)
    (hinit := by
      refine Pipeline.initEach L lv fun c => ?_
      rw [show unscopedBufs c (fun b => m ((c : Thread nD τ).loc b)) = at_ c (V0 m c) from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => Final m c s) (hfin := fun c s' => hfin m c s')
    (hQ := fun _ h hz => ⟨h, funext fun g => hz g (.inr (regions_no_unscoped g.2))⟩)

/-- The frame: arguments as launched, counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).1, h.2⟩) (run m ρ)

end Cert.Kernel.Run

end
-- ==== Proof.lean ====
module

public import proofs.«01_k».proof.Defs
public import proofs.«01_k».proof.Proof.Algebraic
public import proofs.«01_k».proof.Proof.Printed.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Run.frame m ρ,
  fun m ρ _ => Cert.KernelIdeal.Run.frame m ρ,
  fun m ρ _ => Cert.ReferenceIdeal.Gen.frame m ρ,
  trivial,
  Cert.algebraic_proof⟩

end Cert.Proof

end
